-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S2x512x2048 : Shape := ⟨3, ![2, 512, 2048]⟩
abbrev S8x128 : Shape := ⟨2, ![8, 128]⟩
abbrev S8x8x128 : Shape := ⟨3, ![8, 8, 128]⟩
abbrev S8 : Shape := ⟨1, ![8]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩
abbrev S512x1024 : Shape := ⟨2, ![512, 1024]⟩
abbrev S1x512x1024 : Shape := ⟨3, ![1, 512, 1024]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .bf16⟩
  | .local _ .vmem, ⟨3, _⟩ => ⟨S8x512x512, .bf16⟩
  | .local _ .vmem, ⟨4, _⟩ => ⟨S2x512x2048, .f32⟩
  | .local _ .vmem, ⟨5, _⟩ => ⟨S8x128, .f32⟩
  | .local _ .vmem, ⟨6, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c0_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  let c0_i32_75 : BitVec 32 := 0#32
  ![v106.toNat, 0]
def k0_off2 (d0 : Dev nD) (c0_i32_76 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c0_i32_76
  let c8_i32_77 : BitVec 32 := 8#32
  let c0_i32_78 : BitVec 32 := 0#32
  let v113 : BitVec 1 := Scalar.cmpi .eq c8_i32_77 c0_i32_78
  let c1_i32_79 : BitVec 32 := 1#32
  let v114 : BitVec 32 := Scalar.select v113 c1_i32_79 c8_i32_77
  let v115 : BitVec 32 := Scalar.remsi v112 v114
  let c0_i32_81 : BitVec 32 := 0#32
  let v117 : BitVec 1 := Scalar.cmpi .slt v115 c0_i32_81
  let c0_i32_82 : BitVec 32 := 0#32
  let v118 : BitVec 1 := Scalar.cmpi .slt v114 c0_i32_82
  let v119 : BitVec 1 := Scalar.xori v117 v118
  let c0_i32_80 : BitVec 32 := 0#32
  let v116 : BitVec 1 := Scalar.cmpi .ne v115 c0_i32_80
  let v120 : BitVec 1 := Scalar.andi v119 v116
  let v121 : BitVec 32 := Scalar.addi v115 v114
  let v122 : BitVec 32 := Scalar.select v120 v121 v115
  let c512_i32_83 : BitVec 32 := 512#32
  let v123 : BitVec 32 := Scalar.muli v122 c512_i32_83
  let c2048_i32 : BitVec 32 := 2048#32
  ![v123.toNat, 2048]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_off5 (d0 : Dev nD) (c1_i32_94 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v139 : BitVec 32 := Scalar.addi v2 c1_i32_94
  let c8_i32_95 : BitVec 32 := 8#32
  let c0_i32_96 : BitVec 32 := 0#32
  let v140 : BitVec 1 := Scalar.cmpi .eq c8_i32_95 c0_i32_96
  let c1_i32_97 : BitVec 32 := 1#32
  let v141 : BitVec 32 := Scalar.select v140 c1_i32_97 c8_i32_95
  let v142 : BitVec 32 := Scalar.remsi v139 v141
  let c0_i32_99 : BitVec 32 := 0#32
  let v144 : BitVec 1 := Scalar.cmpi .slt v142 c0_i32_99
  let c0_i32_100 : BitVec 32 := 0#32
  let v145 : BitVec 1 := Scalar.cmpi .slt v141 c0_i32_100
  let v146 : BitVec 1 := Scalar.xori v144 v145
  let c0_i32_98 : BitVec 32 := 0#32
  let v143 : BitVec 1 := Scalar.cmpi .ne v142 c0_i32_98
  let v147 : BitVec 1 := Scalar.andi v146 v143
  let v148 : BitVec 32 := Scalar.addi v142 v141
  let v149 : BitVec 32 := Scalar.select v147 v148 v142
  let c512_i32_101 : BitVec 32 := 512#32
  let v150 : BitVec 32 := Scalar.muli v149 c512_i32_101
  let c0_i32_107 : BitVec 32 := 0#32
  ![v150.toNat, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v139 : BitVec 32 := Scalar.addi v2 c1_i32_94
  let c8_i32_95 : BitVec 32 := 8#32
  let c0_i32_96 : BitVec 32 := 0#32
  let v140 : BitVec 1 := Scalar.cmpi .eq c8_i32_95 c0_i32_96
  let c1_i32_97 : BitVec 32 := 1#32
  let v141 : BitVec 32 := Scalar.select v140 c1_i32_97 c8_i32_95
  let v142 : BitVec 32 := Scalar.remsi v139 v141
  let c0_i32_99 : BitVec 32 := 0#32
  let v144 : BitVec 1 := Scalar.cmpi .slt v142 c0_i32_99
  let c0_i32_100 : BitVec 32 := 0#32
  let v145 : BitVec 1 := Scalar.cmpi .slt v141 c0_i32_100
  let v146 : BitVec 1 := Scalar.xori v144 v145
  let c0_i32_98 : BitVec 32 := 0#32
  let v143 : BitVec 1 := Scalar.cmpi .ne v142 c0_i32_98
  let v147 : BitVec 1 := Scalar.andi v146 v143
  let v148 : BitVec 32 := Scalar.addi v142 v141
  let v149 : BitVec 32 := Scalar.select v147 v148 v142
  let c1_i32_103 : BitVec 32 := 1#32
  let v151 : BitVec 32 := Scalar.muli v149 c1_i32_103
  let v152 : BitVec 32 := Scalar.addi c0_i32_104 v151
  v152.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v160 : BitVec 32 := Scalar.addi v2 c2_i32_108
  let c8_i32_109 : BitVec 32 := 8#32
  let c0_i32_110 : BitVec 32 := 0#32
  let v161 : BitVec 1 := Scalar.cmpi .eq c8_i32_109 c0_i32_110
  let c1_i32_111 : BitVec 32 := 1#32
  let v162 : BitVec 32 := Scalar.select v161 c1_i32_111 c8_i32_109
  let v163 : BitVec 32 := Scalar.remsi v160 v162
  let c0_i32_113 : BitVec 32 := 0#32
  let v165 : BitVec 1 := Scalar.cmpi .slt v163 c0_i32_113
  let c0_i32_114 : BitVec 32 := 0#32
  let v166 : BitVec 1 := Scalar.cmpi .slt v162 c0_i32_114
  let v167 : BitVec 1 := Scalar.xori v165 v166
  let c0_i32_112 : BitVec 32 := 0#32
  let v164 : BitVec 1 := Scalar.cmpi .ne v163 c0_i32_112
  let v168 : BitVec 1 := Scalar.andi v167 v164
  let v169 : BitVec 32 := Scalar.addi v163 v162
  let v170 : BitVec 32 := Scalar.select v168 v169 v163
  let c1_i32_117 : BitVec 32 := 1#32
  let v172 : BitVec 32 := Scalar.muli v170 c1_i32_117
  let v173 : BitVec 32 := Scalar.addi c0_i32_118 v172
  v173.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v181 : BitVec 32 := Scalar.addi v2 c3_i32_122
  let c8_i32_123 : BitVec 32 := 8#32
  let c0_i32_124 : BitVec 32 := 0#32
  let v182 : BitVec 1 := Scalar.cmpi .eq c8_i32_123 c0_i32_124
  let c1_i32_125 : BitVec 32 := 1#32
  let v183 : BitVec 32 := Scalar.select v182 c1_i32_125 c8_i32_123
  let v184 : BitVec 32 := Scalar.remsi v181 v183
  let c0_i32_127 : BitVec 32 := 0#32
  let v186 : BitVec 1 := Scalar.cmpi .slt v184 c0_i32_127
  let c0_i32_128 : BitVec 32 := 0#32
  let v187 : BitVec 1 := Scalar.cmpi .slt v183 c0_i32_128
  let v188 : BitVec 1 := Scalar.xori v186 v187
  let c0_i32_126 : BitVec 32 := 0#32
  let v185 : BitVec 1 := Scalar.cmpi .ne v184 c0_i32_126
  let v189 : BitVec 1 := Scalar.andi v188 v185
  let v190 : BitVec 32 := Scalar.addi v184 v183
  let v191 : BitVec 32 := Scalar.select v189 v190 v184
  let c1_i32_131 : BitVec 32 := 1#32
  let v193 : BitVec 32 := Scalar.muli v191 c1_i32_131
  let v194 : BitVec 32 := Scalar.addi c0_i32_132 v193
  v194.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v202 : BitVec 32 := Scalar.addi v2 c4_i32_136
  let c8_i32_137 : BitVec 32 := 8#32
  let c0_i32_138 : BitVec 32 := 0#32
  let v203 : BitVec 1 := Scalar.cmpi .eq c8_i32_137 c0_i32_138
  let c1_i32_139 : BitVec 32 := 1#32
  let v204 : BitVec 32 := Scalar.select v203 c1_i32_139 c8_i32_137
  let v205 : BitVec 32 := Scalar.remsi v202 v204
  let c0_i32_141 : BitVec 32 := 0#32
  let v207 : BitVec 1 := Scalar.cmpi .slt v205 c0_i32_141
  let c0_i32_142 : BitVec 32 := 0#32
  let v208 : BitVec 1 := Scalar.cmpi .slt v204 c0_i32_142
  let v209 : BitVec 1 := Scalar.xori v207 v208
  let c0_i32_140 : BitVec 32 := 0#32
  let v206 : BitVec 1 := Scalar.cmpi .ne v205 c0_i32_140
  let v210 : BitVec 1 := Scalar.andi v209 v206
  let v211 : BitVec 32 := Scalar.addi v205 v204
  let v212 : BitVec 32 := Scalar.select v210 v211 v205
  let c1_i32_145 : BitVec 32 := 1#32
  let v214 : BitVec 32 := Scalar.muli v212 c1_i32_145
  let v215 : BitVec 32 := Scalar.addi c0_i32_146 v214
  v215.toNat
def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_150 : BitVec 32 := 5#32
  let v223 : BitVec 32 := Scalar.addi v2 c5_i32_150
  let c8_i32_151 : BitVec 32 := 8#32
  let c0_i32_152 : BitVec 32 := 0#32
  let v224 : BitVec 1 := Scalar.cmpi .eq c8_i32_151 c0_i32_152
  let c1_i32_153 : BitVec 32 := 1#32
  let v225 : BitVec 32 := Scalar.select v224 c1_i32_153 c8_i32_151
  let v226 : BitVec 32 := Scalar.remsi v223 v225
  let c0_i32_155 : BitVec 32 := 0#32
  let v228 : BitVec 1 := Scalar.cmpi .slt v226 c0_i32_155
  let c0_i32_156 : BitVec 32 := 0#32
  let v229 : BitVec 1 := Scalar.cmpi .slt v225 c0_i32_156
  let v230 : BitVec 1 := Scalar.xori v228 v229
  let c0_i32_154 : BitVec 32 := 0#32
  let v227 : BitVec 1 := Scalar.cmpi .ne v226 c0_i32_154
  let v231 : BitVec 1 := Scalar.andi v230 v227
  let v232 : BitVec 32 := Scalar.addi v226 v225
  let v233 : BitVec 32 := Scalar.select v231 v232 v226
  let c1_i32_159 : BitVec 32 := 1#32
  let v235 : BitVec 32 := Scalar.muli v233 c1_i32_159
  let v236 : BitVec 32 := Scalar.addi c0_i32_160 v235
  v236.toNat
def k0_dev13 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_164 : BitVec 32 := 6#32
  let v244 : BitVec 32 := Scalar.addi v2 c6_i32_164
  let c8_i32_165 : BitVec 32 := 8#32
  let c0_i32_166 : BitVec 32 := 0#32
  let v245 : BitVec 1 := Scalar.cmpi .eq c8_i32_165 c0_i32_166
  let c1_i32_167 : BitVec 32 := 1#32
  let v246 : BitVec 32 := Scalar.select v245 c1_i32_167 c8_i32_165
  let v247 : BitVec 32 := Scalar.remsi v244 v246
  let c0_i32_169 : BitVec 32 := 0#32
  let v249 : BitVec 1 := Scalar.cmpi .slt v247 c0_i32_169
  let c0_i32_170 : BitVec 32 := 0#32
  let v250 : BitVec 1 := Scalar.cmpi .slt v246 c0_i32_170
  let v251 : BitVec 1 := Scalar.xori v249 v250
  let c0_i32_168 : BitVec 32 := 0#32
  let v248 : BitVec 1 := Scalar.cmpi .ne v247 c0_i32_168
  let v252 : BitVec 1 := Scalar.andi v251 v248
  let v253 : BitVec 32 := Scalar.addi v247 v246
  let v254 : BitVec 32 := Scalar.select v252 v253 v247
  let c1_i32_173 : BitVec 32 := 1#32
  let v256 : BitVec 32 := Scalar.muli v254 c1_i32_173
  let v257 : BitVec 32 := Scalar.addi c0_i32_174 v256
  v257.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v265 : BitVec 32 := Scalar.addi v2 c7_i32_178
  let c8_i32_179 : BitVec 32 := 8#32
  let c0_i32_180 : BitVec 32 := 0#32
  let v266 : BitVec 1 := Scalar.cmpi .eq c8_i32_179 c0_i32_180
  let c1_i32_181 : BitVec 32 := 1#32
  let v267 : BitVec 32 := Scalar.select v266 c1_i32_181 c8_i32_179
  let v268 : BitVec 32 := Scalar.remsi v265 v267
  let c0_i32_183 : BitVec 32 := 0#32
  let v270 : BitVec 1 := Scalar.cmpi .slt v268 c0_i32_183
  let c0_i32_184 : BitVec 32 := 0#32
  let v271 : BitVec 1 := Scalar.cmpi .slt v267 c0_i32_184
  let v272 : BitVec 1 := Scalar.xori v270 v271
  let c0_i32_182 : BitVec 32 := 0#32
  let v269 : BitVec 1 := Scalar.cmpi .ne v268 c0_i32_182
  let v273 : BitVec 1 := Scalar.andi v272 v269
  let v274 : BitVec 32 := Scalar.addi v268 v267
  let v275 : BitVec 32 := Scalar.select v273 v274 v268
  let c1_i32_187 : BitVec 32 := 1#32
  let v277 : BitVec 32 := Scalar.muli v275 c1_i32_187
  let v278 : BitVec 32 := Scalar.addi c0_i32_188 v277
  v278.toNat
def k0_off6 (d0 : Dev nD) (c1_i32_192 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v286 : BitVec 32 := Scalar.addi v2 c1_i32_192
  let c8_i32_193 : BitVec 32 := 8#32
  let c0_i32_194 : BitVec 32 := 0#32
  let v287 : BitVec 1 := Scalar.cmpi .eq c8_i32_193 c0_i32_194
  let c1_i32_195 : BitVec 32 := 1#32
  let v288 : BitVec 32 := Scalar.select v287 c1_i32_195 c8_i32_193
  let v289 : BitVec 32 := Scalar.remsi v286 v288
  let c0_i32_197 : BitVec 32 := 0#32
  let v291 : BitVec 1 := Scalar.cmpi .slt v289 c0_i32_197
  let c0_i32_198 : BitVec 32 := 0#32
  let v292 : BitVec 1 := Scalar.cmpi .slt v288 c0_i32_198
  let v293 : BitVec 1 := Scalar.xori v291 v292
  let c0_i32_196 : BitVec 32 := 0#32
  let v290 : BitVec 1 := Scalar.cmpi .ne v289 c0_i32_196
  let v294 : BitVec 1 := Scalar.andi v293 v290
  let v295 : BitVec 32 := Scalar.addi v289 v288
  let v296 : BitVec 32 := Scalar.select v294 v295 v289
  ![v296.toNat]
def k0_off7 (d0 : Dev nD) (c1_i32_192 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v286 : BitVec 32 := Scalar.addi v2 c1_i32_192
  let c8_i32_193 : BitVec 32 := 8#32
  let c0_i32_194 : BitVec 32 := 0#32
  let v287 : BitVec 1 := Scalar.cmpi .eq c8_i32_193 c0_i32_194
  let c1_i32_195 : BitVec 32 := 1#32
  let v288 : BitVec 32 := Scalar.select v287 c1_i32_195 c8_i32_193
  let v289 : BitVec 32 := Scalar.remsi v286 v288
  let c0_i32_197 : BitVec 32 := 0#32
  let v291 : BitVec 1 := Scalar.cmpi .slt v289 c0_i32_197
  let c0_i32_198 : BitVec 32 := 0#32
  let v292 : BitVec 1 := Scalar.cmpi .slt v288 c0_i32_198
  let v293 : BitVec 1 := Scalar.xori v291 v292
  let c0_i32_196 : BitVec 32 := 0#32
  let v290 : BitVec 1 := Scalar.cmpi .ne v289 c0_i32_196
  let v294 : BitVec 1 := Scalar.andi v293 v290
  let v295 : BitVec 32 := Scalar.addi v289 v288
  let v296 : BitVec 32 := Scalar.select v294 v295 v289
  let c0_i32_202 : BitVec 32 := 0#32
  let c0_i32_203 : BitVec 32 := 0#32
  ![v296.toNat, 0, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_290 : BitVec 32 := 512#32
  let v419 : BitVec 32 := Scalar.muli v2 c512_i32_290
  let v420 : Index := Scalar.indexCast v419
  let c0_291 : Index := 0#32
  ![v420.toNat, 0]
def k0_off9 (d0 : Dev nD) (c0_i32_303 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v432 : BitVec 32 := Scalar.addi v2 c0_i32_303
  let c8_i32_304 : BitVec 32 := 8#32
  let c0_i32_305 : BitVec 32 := 0#32
  let v433 : BitVec 1 := Scalar.cmpi .eq c8_i32_304 c0_i32_305
  let c1_i32_306 : BitVec 32 := 1#32
  let v434 : BitVec 32 := Scalar.select v433 c1_i32_306 c8_i32_304
  let v435 : BitVec 32 := Scalar.remsi v432 v434
  let c0_i32_308 : BitVec 32 := 0#32
  let v437 : BitVec 1 := Scalar.cmpi .slt v435 c0_i32_308
  let c0_i32_309 : BitVec 32 := 0#32
  let v438 : BitVec 1 := Scalar.cmpi .slt v434 c0_i32_309
  let v439 : BitVec 1 := Scalar.xori v437 v438
  let c0_i32_307 : BitVec 32 := 0#32
  let v436 : BitVec 1 := Scalar.cmpi .ne v435 c0_i32_307
  let v440 : BitVec 1 := Scalar.andi v439 v436
  let v441 : BitVec 32 := Scalar.addi v435 v434
  let v442 : BitVec 32 := Scalar.select v440 v441 v435
  let c512_i32_310 : BitVec 32 := 512#32
  let v443 : BitVec 32 := Scalar.muli v442 c512_i32_310
  let c4096_i32 : BitVec 32 := 4096#32
  ![v443.toNat, 4096]
def k0_off10 (d0 : Dev nD) (c0_i32_326 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v462 : BitVec 32 := Scalar.addi v2 c0_i32_326
  let c8_i32_327 : BitVec 32 := 8#32
  let c0_i32_328 : BitVec 32 := 0#32
  let v463 : BitVec 1 := Scalar.cmpi .eq c8_i32_327 c0_i32_328
  let c1_i32_329 : BitVec 32 := 1#32
  let v464 : BitVec 32 := Scalar.select v463 c1_i32_329 c8_i32_327
  let v465 : BitVec 32 := Scalar.remsi v462 v464
  let c0_i32_331 : BitVec 32 := 0#32
  let v467 : BitVec 1 := Scalar.cmpi .slt v465 c0_i32_331
  let c0_i32_332 : BitVec 32 := 0#32
  let v468 : BitVec 1 := Scalar.cmpi .slt v464 c0_i32_332
  let v469 : BitVec 1 := Scalar.xori v467 v468
  let c0_i32_330 : BitVec 32 := 0#32
  let v466 : BitVec 1 := Scalar.cmpi .ne v465 c0_i32_330
  let v470 : BitVec 1 := Scalar.andi v469 v466
  let v471 : BitVec 32 := Scalar.addi v465 v464
  let v472 : BitVec 32 := Scalar.select v470 v471 v465
  let c512_i32_333 : BitVec 32 := 512#32
  let v473 : BitVec 32 := Scalar.muli v472 c512_i32_333
  let c6144_i32 : BitVec 32 := 6144#32
  ![v473.toNat, 6144]
def k0_off11 (d0 : Dev nD) (c1_i32_388 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v539 : BitVec 32 := Scalar.addi v2 c1_i32_388
  let c8_i32_389 : BitVec 32 := 8#32
  let c0_i32_390 : BitVec 32 := 0#32
  let v540 : BitVec 1 := Scalar.cmpi .eq c8_i32_389 c0_i32_390
  let c1_i32_391 : BitVec 32 := 1#32
  let v541 : BitVec 32 := Scalar.select v540 c1_i32_391 c8_i32_389
  let v542 : BitVec 32 := Scalar.remsi v539 v541
  let c0_i32_393 : BitVec 32 := 0#32
  let v544 : BitVec 1 := Scalar.cmpi .slt v542 c0_i32_393
  let c0_i32_394 : BitVec 32 := 0#32
  let v545 : BitVec 1 := Scalar.cmpi .slt v541 c0_i32_394
  let v546 : BitVec 1 := Scalar.xori v544 v545
  let c0_i32_392 : BitVec 32 := 0#32
  let v543 : BitVec 1 := Scalar.cmpi .ne v542 c0_i32_392
  let v547 : BitVec 1 := Scalar.andi v546 v543
  let v548 : BitVec 32 := Scalar.addi v542 v541
  let v549 : BitVec 32 := Scalar.select v547 v548 v542
  let v550 : Index := Scalar.indexCast v549
  let c0_395 : Index := 0#32
  let c0_396 : Index := 0#32
  ![v550.toNat, 0, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1410 : BitVec 32 := 0#32
  let c0_i32_1411 : BitVec 32 := 0#32
  ![v2.toNat, 0, 0]
def k0_dev15 (d0 : Dev nD) : Nat :=
  let c0_i32_1409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1400 : BitVec 32 := 1#32
  let v1840 : BitVec 32 := Scalar.addi v2 c1_i32_1400
  let c8_i32_1401 : BitVec 32 := 8#32
  let c0_i32_1402 : BitVec 32 := 0#32
  let v1841 : BitVec 1 := Scalar.cmpi .eq c8_i32_1401 c0_i32_1402
  let c1_i32_1403 : BitVec 32 := 1#32
  let v1842 : BitVec 32 := Scalar.select v1841 c1_i32_1403 c8_i32_1401
  let v1843 : BitVec 32 := Scalar.remsi v1840 v1842
  let c0_i32_1405 : BitVec 32 := 0#32
  let v1845 : BitVec 1 := Scalar.cmpi .slt v1843 c0_i32_1405
  let c0_i32_1406 : BitVec 32 := 0#32
  let v1846 : BitVec 1 := Scalar.cmpi .slt v1842 c0_i32_1406
  let v1847 : BitVec 1 := Scalar.xori v1845 v1846
  let c0_i32_1404 : BitVec 32 := 0#32
  let v1844 : BitVec 1 := Scalar.cmpi .ne v1843 c0_i32_1404
  let v1848 : BitVec 1 := Scalar.andi v1847 v1844
  let v1849 : BitVec 32 := Scalar.addi v1843 v1842
  let v1850 : BitVec 32 := Scalar.select v1848 v1849 v1843
  let c1_i32_1408 : BitVec 32 := 1#32
  let v1851 : BitVec 32 := Scalar.muli v1850 c1_i32_1408
  let v1852 : BitVec 32 := Scalar.addi c0_i32_1409 v1851
  v1852.toNat
def k0_dev16 (d0 : Dev nD) : Nat :=
  let c0_i32_1421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1412 : BitVec 32 := 2#32
  let v1859 : BitVec 32 := Scalar.addi v2 c2_i32_1412
  let c8_i32_1413 : BitVec 32 := 8#32
  let c0_i32_1414 : BitVec 32 := 0#32
  let v1860 : BitVec 1 := Scalar.cmpi .eq c8_i32_1413 c0_i32_1414
  let c1_i32_1415 : BitVec 32 := 1#32
  let v1861 : BitVec 32 := Scalar.select v1860 c1_i32_1415 c8_i32_1413
  let v1862 : BitVec 32 := Scalar.remsi v1859 v1861
  let c0_i32_1417 : BitVec 32 := 0#32
  let v1864 : BitVec 1 := Scalar.cmpi .slt v1862 c0_i32_1417
  let c0_i32_1418 : BitVec 32 := 0#32
  let v1865 : BitVec 1 := Scalar.cmpi .slt v1861 c0_i32_1418
  let v1866 : BitVec 1 := Scalar.xori v1864 v1865
  let c0_i32_1416 : BitVec 32 := 0#32
  let v1863 : BitVec 1 := Scalar.cmpi .ne v1862 c0_i32_1416
  let v1867 : BitVec 1 := Scalar.andi v1866 v1863
  let v1868 : BitVec 32 := Scalar.addi v1862 v1861
  let v1869 : BitVec 32 := Scalar.select v1867 v1868 v1862
  let c1_i32_1420 : BitVec 32 := 1#32
  let v1870 : BitVec 32 := Scalar.muli v1869 c1_i32_1420
  let v1871 : BitVec 32 := Scalar.addi c0_i32_1421 v1870
  v1871.toNat
def k0_dev17 (d0 : Dev nD) : Nat :=
  let c0_i32_1433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1424 : BitVec 32 := 3#32
  let v1878 : BitVec 32 := Scalar.addi v2 c3_i32_1424
  let c8_i32_1425 : BitVec 32 := 8#32
  let c0_i32_1426 : BitVec 32 := 0#32
  let v1879 : BitVec 1 := Scalar.cmpi .eq c8_i32_1425 c0_i32_1426
  let c1_i32_1427 : BitVec 32 := 1#32
  let v1880 : BitVec 32 := Scalar.select v1879 c1_i32_1427 c8_i32_1425
  let v1881 : BitVec 32 := Scalar.remsi v1878 v1880
  let c0_i32_1429 : BitVec 32 := 0#32
  let v1883 : BitVec 1 := Scalar.cmpi .slt v1881 c0_i32_1429
  let c0_i32_1430 : BitVec 32 := 0#32
  let v1884 : BitVec 1 := Scalar.cmpi .slt v1880 c0_i32_1430
  let v1885 : BitVec 1 := Scalar.xori v1883 v1884
  let c0_i32_1428 : BitVec 32 := 0#32
  let v1882 : BitVec 1 := Scalar.cmpi .ne v1881 c0_i32_1428
  let v1886 : BitVec 1 := Scalar.andi v1885 v1882
  let v1887 : BitVec 32 := Scalar.addi v1881 v1880
  let v1888 : BitVec 32 := Scalar.select v1886 v1887 v1881
  let c1_i32_1432 : BitVec 32 := 1#32
  let v1889 : BitVec 32 := Scalar.muli v1888 c1_i32_1432
  let v1890 : BitVec 32 := Scalar.addi c0_i32_1433 v1889
  v1890.toNat
def k0_dev18 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1436 : BitVec 32 := 4#32
  let v1897 : BitVec 32 := Scalar.addi v2 c4_i32_1436
  let c8_i32_1437 : BitVec 32 := 8#32
  let c0_i32_1438 : BitVec 32 := 0#32
  let v1898 : BitVec 1 := Scalar.cmpi .eq c8_i32_1437 c0_i32_1438
  let c1_i32_1439 : BitVec 32 := 1#32
  let v1899 : BitVec 32 := Scalar.select v1898 c1_i32_1439 c8_i32_1437
  let v1900 : BitVec 32 := Scalar.remsi v1897 v1899
  let c0_i32_1441 : BitVec 32 := 0#32
  let v1902 : BitVec 1 := Scalar.cmpi .slt v1900 c0_i32_1441
  let c0_i32_1442 : BitVec 32 := 0#32
  let v1903 : BitVec 1 := Scalar.cmpi .slt v1899 c0_i32_1442
  let v1904 : BitVec 1 := Scalar.xori v1902 v1903
  let c0_i32_1440 : BitVec 32 := 0#32
  let v1901 : BitVec 1 := Scalar.cmpi .ne v1900 c0_i32_1440
  let v1905 : BitVec 1 := Scalar.andi v1904 v1901
  let v1906 : BitVec 32 := Scalar.addi v1900 v1899
  let v1907 : BitVec 32 := Scalar.select v1905 v1906 v1900
  let c1_i32_1444 : BitVec 32 := 1#32
  let v1908 : BitVec 32 := Scalar.muli v1907 c1_i32_1444
  let v1909 : BitVec 32 := Scalar.addi c0_i32_1445 v1908
  v1909.toNat
def k0_dev19 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1448 : BitVec 32 := 5#32
  let v1916 : BitVec 32 := Scalar.addi v2 c5_i32_1448
  let c8_i32_1449 : BitVec 32 := 8#32
  let c0_i32_1450 : BitVec 32 := 0#32
  let v1917 : BitVec 1 := Scalar.cmpi .eq c8_i32_1449 c0_i32_1450
  let c1_i32_1451 : BitVec 32 := 1#32
  let v1918 : BitVec 32 := Scalar.select v1917 c1_i32_1451 c8_i32_1449
  let v1919 : BitVec 32 := Scalar.remsi v1916 v1918
  let c0_i32_1453 : BitVec 32 := 0#32
  let v1921 : BitVec 1 := Scalar.cmpi .slt v1919 c0_i32_1453
  let c0_i32_1454 : BitVec 32 := 0#32
  let v1922 : BitVec 1 := Scalar.cmpi .slt v1918 c0_i32_1454
  let v1923 : BitVec 1 := Scalar.xori v1921 v1922
  let c0_i32_1452 : BitVec 32 := 0#32
  let v1920 : BitVec 1 := Scalar.cmpi .ne v1919 c0_i32_1452
  let v1924 : BitVec 1 := Scalar.andi v1923 v1920
  let v1925 : BitVec 32 := Scalar.addi v1919 v1918
  let v1926 : BitVec 32 := Scalar.select v1924 v1925 v1919
  let c1_i32_1456 : BitVec 32 := 1#32
  let v1927 : BitVec 32 := Scalar.muli v1926 c1_i32_1456
  let v1928 : BitVec 32 := Scalar.addi c0_i32_1457 v1927
  v1928.toNat
def k0_dev20 (d0 : Dev nD) : Nat :=
  let c0_i32_1469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1460 : BitVec 32 := 6#32
  let v1935 : BitVec 32 := Scalar.addi v2 c6_i32_1460
  let c8_i32_1461 : BitVec 32 := 8#32
  let c0_i32_1462 : BitVec 32 := 0#32
  let v1936 : BitVec 1 := Scalar.cmpi .eq c8_i32_1461 c0_i32_1462
  let c1_i32_1463 : BitVec 32 := 1#32
  let v1937 : BitVec 32 := Scalar.select v1936 c1_i32_1463 c8_i32_1461
  let v1938 : BitVec 32 := Scalar.remsi v1935 v1937
  let c0_i32_1465 : BitVec 32 := 0#32
  let v1940 : BitVec 1 := Scalar.cmpi .slt v1938 c0_i32_1465
  let c0_i32_1466 : BitVec 32 := 0#32
  let v1941 : BitVec 1 := Scalar.cmpi .slt v1937 c0_i32_1466
  let v1942 : BitVec 1 := Scalar.xori v1940 v1941
  let c0_i32_1464 : BitVec 32 := 0#32
  let v1939 : BitVec 1 := Scalar.cmpi .ne v1938 c0_i32_1464
  let v1943 : BitVec 1 := Scalar.andi v1942 v1939
  let v1944 : BitVec 32 := Scalar.addi v1938 v1937
  let v1945 : BitVec 32 := Scalar.select v1943 v1944 v1938
  let c1_i32_1468 : BitVec 32 := 1#32
  let v1946 : BitVec 32 := Scalar.muli v1945 c1_i32_1468
  let v1947 : BitVec 32 := Scalar.addi c0_i32_1469 v1946
  v1947.toNat
def k0_dev21 (d0 : Dev nD) : Nat :=
  let c0_i32_1481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1472 : BitVec 32 := 7#32
  let v1954 : BitVec 32 := Scalar.addi v2 c7_i32_1472
  let c8_i32_1473 : BitVec 32 := 8#32
  let c0_i32_1474 : BitVec 32 := 0#32
  let v1955 : BitVec 1 := Scalar.cmpi .eq c8_i32_1473 c0_i32_1474
  let c1_i32_1475 : BitVec 32 := 1#32
  let v1956 : BitVec 32 := Scalar.select v1955 c1_i32_1475 c8_i32_1473
  let v1957 : BitVec 32 := Scalar.remsi v1954 v1956
  let c0_i32_1477 : BitVec 32 := 0#32
  let v1959 : BitVec 1 := Scalar.cmpi .slt v1957 c0_i32_1477
  let c0_i32_1478 : BitVec 32 := 0#32
  let v1960 : BitVec 1 := Scalar.cmpi .slt v1956 c0_i32_1478
  let v1961 : BitVec 1 := Scalar.xori v1959 v1960
  let c0_i32_1476 : BitVec 32 := 0#32
  let v1958 : BitVec 1 := Scalar.cmpi .ne v1957 c0_i32_1476
  let v1962 : BitVec 1 := Scalar.andi v1961 v1958
  let v1963 : BitVec 32 := Scalar.addi v1957 v1956
  let v1964 : BitVec 32 := Scalar.select v1962 v1963 v1957
  let c1_i32_1480 : BitVec 32 := 1#32
  let v1965 : BitVec 32 := Scalar.muli v1964 c1_i32_1480
  let v1966 : BitVec 32 := Scalar.addi c0_i32_1481 v1965
  v1966.toNat
def k0_off13 (d0 : Dev nD) (c1_i32_1484 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1973 : BitVec 32 := Scalar.addi v2 c1_i32_1484
  let c8_i32_1485 : BitVec 32 := 8#32
  let c0_i32_1486 : BitVec 32 := 0#32
  let v1974 : BitVec 1 := Scalar.cmpi .eq c8_i32_1485 c0_i32_1486
  let c1_i32_1487 : BitVec 32 := 1#32
  let v1975 : BitVec 32 := Scalar.select v1974 c1_i32_1487 c8_i32_1485
  let v1976 : BitVec 32 := Scalar.remsi v1973 v1975
  let c0_i32_1489 : BitVec 32 := 0#32
  let v1978 : BitVec 1 := Scalar.cmpi .slt v1976 c0_i32_1489
  let c0_i32_1490 : BitVec 32 := 0#32
  let v1979 : BitVec 1 := Scalar.cmpi .slt v1975 c0_i32_1490
  let v1980 : BitVec 1 := Scalar.xori v1978 v1979
  let c0_i32_1488 : BitVec 32 := 0#32
  let v1977 : BitVec 1 := Scalar.cmpi .ne v1976 c0_i32_1488
  let v1981 : BitVec 1 := Scalar.andi v1980 v1977
  let v1982 : BitVec 32 := Scalar.addi v1976 v1975
  let v1983 : BitVec 32 := Scalar.select v1981 v1982 v1976
  let c0_i32_1494 : BitVec 32 := 0#32
  let c0_i32_1495 : BitVec 32 := 0#32
  ![v1983.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .fp8e4m3⟩
  | .hbm, ⟨19, _⟩ => ⟨S1x1, .f32⟩
  | .hbm, ⟨20, _⟩ => ⟨S4096x8192, .f32⟩
  | .local _ .vmem, ⟨0, _⟩ => ⟨S4096x8192, .fp8e4m3⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Steps.lean ====
/-
# The kernel's body, written as its steps

The printed body is one straight line of some four thousand statements. Here it is written again as the steps
the kernel's source has - signal, send, receive, one weight chunk, one column block - each a small program in the
step's number, run over the list of its numbers; `body_eq` says the printed body IS that program.
-/
module

public import proofs.«01_k».proof.Proof.Gen.KernelIdeal.Skeleton
public import proofs.«01_k».proof.Proof.Gen.KernelIdeal.Launch
public import Idealize.ShloMosaic.Lib.Pipeline.Regions

@[expose] public section

set_option maxRecDepth 16384

noncomputable section

namespace Cert.A2A

open Cert.KernelIdeal Cert.KernelIdeal.Gen
open Idealize.ShloMosaic Idealize.ShloMosaic.TcCoe
open Idealize.SL Idealize.SL.Sem

variable {F : FTy → Type} [FloatOps F]

/-- A program of this kernel's body on a TensorCore. -/
abbrev P (F : FTy → Type) (α : Type) : Type 1 := Prog (TpuEff nD τ sig (Elt F) Λ₀ .tc) α

/-! ## The buffers and the semaphores -/

abbrev xM : Memref sig .tc .vmem S4096x512 .f32 := Memref.whole cc0_stg0_0
abbrev wM : Memref sig .tc .hbm S4096x8192 .f32 := Memref.whole main_arg1
abbrev oM : Memref sig .tc .vmem S512x8192 .f32 := Memref.whole cc0_stg1_0
abbrev bM : Memref sig .tc .vmem S4096x512 .bf16 := Memref.whole cc0_scratch0
abbrev aM : Memref sig .tc .vmem S8x512x512 .bf16 := Memref.whole cc0_scratch1
abbrev wbM : Memref sig .tc .vmem S2x512x2048 .f32 := Memref.whole cc0_scratch2
abbrev mM : Memref sig .tc .vmem S8x128 .f32 := Memref.whole cc0_scratch3
abbrev gM : Memref sig .tc .vmem S8x8x128 .f32 := Memref.whole cc0_scratch4

theorem inb8 (k : Fin 8) : ∀ a, (![k.val] : Fin 1 → Nat) a + S1.size a ≤ S8.size a := by revert k; decide
theorem inb2 (s : Fin 2) : ∀ a, (![s.val] : Fin 1 → Nat) a + S1.size a ≤ S2.size a := by revert s; decide

/-- The barrier semaphore, one per device. -/
abbrev barS : Sem sig := (SemArray.scalar (sig.barrier 0 rfl) : Sems sig S_).sem

/-- Entry `k` of an array of eight DMA semaphores. -/
abbrev semAt (A : DmaSems sig S8) (k : Fin 8) : DmaSem sig :=
  ((A.slice (Rect.unit (s := S8) ![k.val] S1.size (inb8 k))).squeeze S_ squeezes_S1_S_).sem
/-- The entry of such an array at the device's own number. -/
abbrev semMy (A : DmaSems sig S8) (d : Dev nD) : DmaSem sig :=
  ((A.slice (Rect.unit (s := S8) (k0_off3 d) S1.size (k0_off3_inb d))).squeeze S_ squeezes_S1_S_).sem
/-- The entry of such an array at the number of the device `k + 1` places further on. -/
abbrev semRot (A : DmaSems sig S8) (d : Dev nD) (k : Fin 7) : DmaSem sig :=
  ((A.slice (Rect.unit (s := S8) (k0_off6 d (BitVec.ofNat 32 (1 + k.val))) S1.size (k0_off6_inb d k))).squeeze S_ squeezes_S1_S_).sem
/-- The weight semaphore of a slot. -/
abbrev semW (s : Fin 2) : DmaSem sig :=
  ((cc0_scratch9.slice (Rect.unit (s := S2) ![s.val] S1.size (inb2 s))).squeeze S_ squeezes_S1_S_).sem

/-! ## The devices addressed -/

/-- The device the `k`-th barrier signal goes to. -/
def devB : Fin 7 → Dev nD → Dev nD := fun
  | 0, d => ⟨k0_dev1 d, k0_dev1_lt d⟩ | 1, d => ⟨k0_dev2 d, k0_dev2_lt d⟩ | 2, d => ⟨k0_dev3 d, k0_dev3_lt d⟩
  | 3, d => ⟨k0_dev4 d, k0_dev4_lt d⟩ | 4, d => ⟨k0_dev5 d, k0_dev5_lt d⟩ | 5, d => ⟨k0_dev6 d, k0_dev6_lt d⟩
  | 6, d => ⟨k0_dev7 d, k0_dev7_lt d⟩
/-- The device the `k`-th block of rows goes to. -/
def devX : Fin 7 → Dev nD → Dev nD := fun
  | 0, d => ⟨k0_dev8 d, k0_dev8_lt d⟩ | 1, d => ⟨k0_dev9 d, k0_dev9_lt d⟩ | 2, d => ⟨k0_dev10 d, k0_dev10_lt d⟩
  | 3, d => ⟨k0_dev11 d, k0_dev11_lt d⟩ | 4, d => ⟨k0_dev12 d, k0_dev12_lt d⟩ | 5, d => ⟨k0_dev13 d, k0_dev13_lt d⟩
  | 6, d => ⟨k0_dev14 d, k0_dev14_lt d⟩
/-- The device the `k`-th copy of the local maximum goes to. -/
def devM : Fin 7 → Dev nD → Dev nD := fun
  | 0, d => ⟨k0_dev15 d, k0_dev15_lt d⟩ | 1, d => ⟨k0_dev16 d, k0_dev16_lt d⟩ | 2, d => ⟨k0_dev17 d, k0_dev17_lt d⟩
  | 3, d => ⟨k0_dev18 d, k0_dev18_lt d⟩ | 4, d => ⟨k0_dev19 d, k0_dev19_lt d⟩ | 5, d => ⟨k0_dev20 d, k0_dev20_lt d⟩
  | 6, d => ⟨k0_dev21 d, k0_dev21_lt d⟩

/-! ## The regions -/

/-- The rows of the rounded operand sent in the `k`-th send. -/
abbrev bRot (d : Dev nD) (k : Fin 7) : Memref sig .tc .vmem S512x512 .bf16 :=
  bM.slice (Rect.unit (s := S4096x512) (k0_off5 d (BitVec.ofNat 32 (1 + k.val))) S512x512.size (k0_off5_inb d k)) (fun _ => rfl)
/-- The device's own slot of the gathered blocks. -/
abbrev aMy (d : Dev nD) : Memref sig .tc .vmem S512x512 .bf16 :=
  (aM.slice (Rect.unit (s := S8x512x512) (k0_off4 d) S1x512x512.size (k0_off4_inb d)) (fun _ => rfl)).squeeze S512x512 squeezes_S1x512x512_S512x512
/-- The slot of the gathered blocks of the device `k + 1` places further on. -/
abbrev aRot (d : Dev nD) (k : Fin 7) : Memref sig .tc .vmem S512x512 .bf16 :=
  (aM.slice (Rect.unit (s := S8x512x512) (k0_off7 d (BitVec.ofNat 32 (1 + k.val))) S1x512x512.size (k0_off7_inb d k)) (fun _ => rfl)).squeeze S512x512 squeezes_S1x512x512_S512x512
/-- The device's own slot of the gathered maxima. -/
abbrev gMy (d : Dev nD) : Memref sig .tc .vmem S8x128 .f32 :=
  (gM.slice (Rect.unit (s := S8x8x128) (k0_off12 d) S1x8x128.size (k0_off12_inb d)) (fun _ => rfl)).squeeze S8x128 squeezes_S1x8x128_S8x128
/-- The slot of the gathered maxima of the device `k + 1` places further on. -/
abbrev gRot (d : Dev nD) (k : Fin 7) : Memref sig .tc .vmem S8x128 .f32 :=
  (gM.slice (Rect.unit (s := S8x8x128) (k0_off13 d (BitVec.ofNat 32 (1 + k.val))) S1x8x128.size (k0_off13_inb d k)) (fun _ => rfl)).squeeze S8x128 squeezes_S1x8x128_S8x128

/-- The corner of the weight chunk of rotation `k`, column quarter `h`. -/
abbrev wOff : Fin 4 → Dev nD → BitVec 32 → (Fin 2 → Nat)
  | 0 => k0_off1 | 1 => k0_off2 | 2 => k0_off9 | 3 => k0_off10
theorem wOff_inb (h : Fin 4) (d : Dev nD) (k : Fin 8) : ∀ a, wOff h d (BitVec.ofNat 32 k.val) a + S512x2048.size a ≤ S4096x8192.size a :=
  match h with
  | 0 => k0_off1_inb d k | 1 => k0_off2_inb d k | 2 => k0_off9_inb d k | 3 => k0_off10_inb d k
/-- The weight chunk of rotation `k`, column quarter `h`. -/
abbrev wSrc (d : Dev nD) (k : Fin 8) (h : Fin 4) : Memref sig .tc .hbm S512x2048 .f32 :=
  wM.slice (Rect.unit (s := S4096x8192) (wOff h d (BitVec.ofNat 32 k.val)) S512x2048.size (wOff_inb h d k)) (fun _ => rfl)
/-- The slot a column quarter's chunk is read through: quarters 0 and 2 use slot 0, quarters 1 and 3 slot 1. -/
abbrev slot : Fin 4 → Fin 2 | 0 => 0 | 1 => 1 | 2 => 0 | 3 => 1
theorem slot_inb (s : Fin 2) : ∀ a, (![s.val, 0, 0] : Fin 3 → Nat) a + S1x512x2048.size a ≤ S2x512x2048.size a := by revert s; decide
/-- A slot of the weight buffer, as its rectangle and as the region a copy lands in. -/
abbrev wRect (s : Fin 2) : Rect S2x512x2048 := Rect.unit (s := S2x512x2048) ![s.val, 0, 0] S1x512x2048.size (slot_inb s)
abbrev wDst (s : Fin 2) : Memref sig .tc .vmem S512x2048 .f32 :=
  (wbM.slice (wRect s) (fun _ => rfl)).squeeze S512x2048 squeezes_S1x512x2048_S512x2048

theorem col_inb (h : Fin 4) : ∀ a, (![0, h.val * 2048] : Fin 2 → Nat) a + S512x2048.size a ≤ S512x8192.size a := by revert h; decide
theorem blk_inb (i : Fin 8) : ∀ a, (![0, i.val * 1024] : Fin 2 → Nat) a + S512x1024.size a ≤ S512x8192.size a := by revert i; decide
/-- Column quarter `h` of the result. -/
abbrev colRect (h : Fin 4) : Rect S512x8192 := Rect.unit (s := S512x8192) ![0, h.val * 2048] S512x2048.size (col_inb h)
/-- Column eighth `i` of the result. -/
abbrev blkRect (i : Fin 8) : Rect S512x8192 := Rect.unit (s := S512x8192) ![0, i.val * 1024] S512x1024.size (blk_inb i)
abbrev ownRect (d : Dev nD) : Rect S4096x512 := Rect.unit (s := S4096x512) (k0_off8 d) S512x512.size (k0_off8_inb d)
abbrev rotRect (d : Dev nD) (k : Fin 7) : Rect S8x512x512 :=
  Rect.unit (s := S8x512x512) (k0_off11 d (BitVec.ofNat 32 (1 + k.val))) S1x512x512.size (k0_off11_inb d k)
abbrev xRect : Rect S4096x512 := Rect.unit (s := S4096x512) ![0, 0] S4096x512.size inb_S4096x512_S4096x512_0_0
abbrev gRect : Rect S8x8x128 := Rect.unit (s := S8x8x128) ![0, 0, 0] S8x8x128.size inb_S8x8x128_S8x8x128_0_0_0
abbrev mRect : Rect S8x128 := Rect.unit (s := S8x128) ![0, 0] S8x128.size inb_S8x128_S8x128_0_0

/-! ## The steps -/

/-- The steps of a list, one after the other. -/
def runL {α : Type} (f : α → P F PUnit) : List α → P F PUnit
  | [] => pure ⟨⟩
  | a :: l => f a >>= fun _ => runL f l

abbrev all7 : List (Fin 7) := [0, 1, 2, 3, 4, 5, 6]
abbrev all8 : List (Fin 8) := [0, 1, 2, 3, 4, 5, 6, 7]

/-- The `k`-th barrier signal. -/
def signal (d : Dev nD) (k : Fin 7) : P F PUnit := semSignalWord (devB k d) barS 1#32
/-- The wait for the seven other devices. -/
def barWait : P F PUnit := semWaitWord barS 7#32

/-- Start the copy of one weight chunk. -/
def startW (d : Dev nD) (k : Fin 8) (h : Fin 4) : P F PUnit :=
  Prog.lift (.enqueueDma (wSrc d k h) (.here (wDst (slot h))) (.dma (semW (slot h))) (View.wordExact_bits rfl) ((View.wordExact_bits rfl).reshape _ _) ⟨Or.inl rfl, trivial⟩)
/-- Wait for it. -/
def waitW (d : Dev nD) (k : Fin 8) (h : Fin 4) : P F PUnit :=
  Prog.lift (.waitDma2 (semW (slot h)) (wSrc d k h) (wDst (slot h)) (View.wordExact_bits rfl) ((View.wordExact_bits rfl).reshape _ _))

/-- Zero the gathered maxima; round the operand into its buffer. -/
def prep : P F PUnit :=
  Prog.lift (.load gM gRect.toLoadRect (View.loadsAt_vmem h_S8x8x128)) >>= fun _ =>
  Prog.lift (.store gM gRect (k0_pay3 (F := F)) Finset.univ (View.stores_vmem_bits_univ h_S8x8x128 rfl) (.inl rfl)) >>= fun _ =>
  Prog.lift (.load xM xRect.toLoadRect (View.loadsAt_vmem h_S4096x512)) >>= fun v =>
  Prog.lift (.load bM xRect.toLoadRect (View.loadsAt_vmem h_S4096x512)) >>= fun _ =>
  Prog.lift (.store bM xRect (k0_pay4 v) Finset.univ (View.stores_vmem h_S4096x512 ((Memref.isWhole_whole _).storeExact_slice rfl _ packedbf16_S4096x512_S4096x512_0_0) (fun _ => rfl)) (.inl rfl))

/-- The `k`-th send of a block of rows, and the waits for it: that it left, that one arrived. -/
def sendX (d : Dev nD) (k : Fin 7) : P F PUnit :=
  Prog.lift (.enqueueDma (bRot d k) (.remote (Dev.tc (devX k d)) (aMy d) (.dma (semAt cc0_scratch5 k.succ))) (.dma (semMy cc0_scratch6 d))
    ((Memref.isWhole_whole _).wordExact_slice rfl _ (k0_off5_wordsbf16 d k)) (((Memref.isWhole_whole _).wordExact_slice rfl _ (k0_off4_wordsbf16 d)).reshape _ _) ⟨⟨rfl, Or.inl rfl⟩, trivial⟩)
def leftX (d : Dev nD) (k : Fin 7) : P F PUnit :=
  Prog.lift (.waitDma2 (semAt cc0_scratch5 k.succ) (aMy d) (bRot d k)
    (((Memref.isWhole_whole _).wordExact_slice rfl _ (k0_off4_wordsbf16 d)).reshape _ _) ((Memref.isWhole_whole _).wordExact_slice rfl _ (k0_off5_wordsbf16 d k)))
def recvX (d : Dev nD) (k : Fin 7) : P F PUnit :=
  Prog.lift (.waitDma2 (semRot cc0_scratch6 d k) (aRot d k) (aRot d k)
    (((Memref.isWhole_whole _).wordExact_slice rfl _ (k0_off7_wordsbf16 d k)).reshape _ _) (((Memref.isWhole_whole _).wordExact_slice rfl _ (k0_off7_wordsbf16 d k)).reshape _ _))

/-- The `k`-th send of the local maximum, and its waits. -/
def sendM (d : Dev nD) (k : Fin 7) : P F PUnit :=
  Prog.lift (.enqueueDma mM (.remote (Dev.tc (devM k d)) (gMy d) (.dma (semAt cc0_scratch7 k.succ))) (.dma (semMy cc0_scratch8 d))
    (Memref.isWhole_whole _).wordExact ((View.wordExact_bits rfl).reshape _ _) ⟨⟨rfl, Or.inl rfl⟩, trivial⟩)
def leftM (d : Dev nD) (k : Fin 7) : P F PUnit :=
  Prog.lift (.waitDma2 (semAt cc0_scratch7 k.succ) (gMy d) mM ((View.wordExact_bits rfl).reshape _ _) (Memref.isWhole_whole _).wordExact)
def recvM (d : Dev nD) (k : Fin 7) : P F PUnit :=
  Prog.lift (.waitDma2 (semRot cc0_scratch8 d k) mM (gRot d k) (Memref.isWhole_whole _).wordExact ((View.wordExact_bits rfl).reshape _ _))

/-- One chunk of rotation 0: the product of the device's own block, written. -/
def chunk0 (d : Dev nD) (h : Fin 4) : P F PUnit :=
  Prog.lift (.load bM (ownRect d).toLoadRect (View.loadsAt_vmem h_S512x512)) >>= fun a =>
  waitW d 0 h >>= fun _ =>
  Prog.lift (.load wbM (wRect (slot h)).toLoadRect (View.loadsAt_vmem h_S1x512x2048)) >>= fun w =>
  Prog.lift (.load oM (colRect h).toLoadRect (View.loadsAt_vmem h_S512x2048)) >>= fun _ =>
  Prog.lift (.store oM (colRect h) (k0_pay5 a w) Finset.univ (View.stores_vmem_bits_univ h_S512x2048 rfl) (.inl rfl))
/-- One chunk of a later rotation: the product of a gathered block, added. -/
def chunkS (d : Dev nD) (k : Fin 7) (h : Fin 4) : P F PUnit :=
  Prog.lift (.load aM (rotRect d k).toLoadRect (View.loadsAt_vmem h_S1x512x512)) >>= fun a =>
  waitW d k.succ h >>= fun _ =>
  Prog.lift (.load wbM (wRect (slot h)).toLoadRect (View.loadsAt_vmem h_S1x512x2048)) >>= fun w =>
  Prog.lift (.load oM (colRect h).toLoadRect (View.loadsAt_vmem h_S512x2048)) >>= fun o =>
  Prog.lift (.load oM (colRect h).toLoadRect (View.loadsAt_vmem h_S512x2048)) >>= fun _ =>
  Prog.lift (.store oM (colRect h) (k0_pay11 a w o) Finset.univ (View.stores_vmem_bits_univ h_S512x2048 rfl) (.inl rfl))

/-- Rotation 0, each chunk followed by the start of the chunk two further on. -/
def rot0 (d : Dev nD) : P F PUnit :=
  chunk0 d 0 >>= fun _ => startW d 0 2 >>= fun _ => chunk0 d 1 >>= fun _ => startW d 0 3 >>= fun _ =>
  chunk0 d 2 >>= fun _ => startW d 1 0 >>= fun _ => chunk0 d 3 >>= fun _ => startW d 1 1
/-- Rotation `k + 1` of rotations 1 to 6. -/
def rotS (d : Dev nD) (k : Fin 6) : P F PUnit :=
  chunkS d k.castSucc 0 >>= fun _ => startW d k.castSucc.succ 2 >>= fun _ => chunkS d k.castSucc 1 >>= fun _ => startW d k.castSucc.succ 3 >>= fun _ =>
  chunkS d k.castSucc 2 >>= fun _ => startW d k.succ.succ 0 >>= fun _ => chunkS d k.castSucc 3 >>= fun _ => startW d k.succ.succ 1
/-- Rotation 7, the last. -/
def rot7 (d : Dev nD) : P F PUnit :=
  chunkS d 6 0 >>= fun _ => startW d 7 2 >>= fun _ => chunkS d 6 1 >>= fun _ => startW d 7 3 >>= fun _ =>
  chunkS d 6 2 >>= fun _ => chunkS d 6 3

/-- The local maximum from the eight column blocks. -/
abbrev amaxOf (a : Fin 8 → Vec F S512x1024 .f32) : F .f32 := k0_pay51 (k0_pay49 (a 0) (a 1) (a 2) (a 3) (a 4)) (k0_pay50 (a 5)) (a 6) (a 7)
/-- The block of copies of the local maximum. -/
abbrev amaxFill (a : Fin 8 → Vec F S512x1024 .f32) : FVec F S8x128 .f32 := k0_pay52 (k0_pay49 (a 0) (a 1) (a 2) (a 3) (a 4)) (k0_pay50 (a 5)) (a 6) (a 7)

/-- Read one column block of the result. -/
def readBlk (i : Fin 8) : P F (Vec F S512x1024 .f32) := Prog.lift (.load oM (blkRect i).toLoadRect (View.loadsAt_vmem h_S512x1024))
/-- Compute the local maximum and write it to its buffer. -/
def localMax : P F (F .f32) :=
  readBlk 0 >>= fun a0 => readBlk 1 >>= fun a1 => readBlk 2 >>= fun a2 => readBlk 3 >>= fun a3 =>
  readBlk 4 >>= fun a4 => readBlk 5 >>= fun a5 => readBlk 6 >>= fun a6 => readBlk 7 >>= fun a7 =>
  Prog.lift (.load mM mRect.toLoadRect (View.loadsAt_vmem h_S8x128)) >>= fun _ =>
  Prog.lift (.store mM mRect (amaxFill ![a0, a1, a2, a3, a4, a5, a6, a7]) Finset.univ (View.stores_vmem_bits_univ h_S8x128 rfl) (.inl rfl)) >>= fun _ =>
  pure (amaxOf ![a0, a1, a2, a3, a4, a5, a6, a7])

/-- Quantise one column block at the global maximum. -/
def quant (g : F .f32) (i : Fin 8) : P F PUnit :=
  readBlk i >>= fun v => readBlk i >>= fun _ =>
  Prog.lift (.store oM (blkRect i) (k0_pay55 g v) Finset.univ (View.stores_vmem_bits_univ h_S512x1024 rfl) (.inl rfl))

/-- The steps after the device's number is known. -/
def stepsAt (d : Dev nD) : P F PUnit :=
  runL (signal d) all7 >>= fun _ => barWait >>= fun _ =>
  startW d 0 0 >>= fun _ => startW d 0 1 >>= fun _ => prep >>= fun _ =>
  runL (sendX d) all7 >>= fun _ => runL (recvX d) all7 >>= fun _ =>
  rot0 d >>= fun _ => runL (rotS d) [0, 1, 2, 3, 4, 5] >>= fun _ => rot7 d >>= fun _ =>
  runL (leftX d) all7 >>= fun _ =>
  localMax >>= fun l =>
  runL (sendM d) all7 >>= fun _ => runL (recvM d) all7 >>= fun _ => runL (leftM d) all7 >>= fun _ =>
  Prog.lift (.load gM gRect.toLoadRect (View.loadsAt_vmem h_S8x8x128)) >>= fun v =>
  runL (quant (k0_pay53 l v)) all8

/-- The whole body. -/
def steps : P F PUnit := Prog.lift .deviceId >>= fun d => stepsAt d

set_option maxRecDepth 65536 in
set_option maxHeartbeats 2000000 in
/-- The printed body is the steps. -/
theorem body_eq : cc0_body (F := F) xM (Memref.isWhole_whole _) wM (Memref.isWhole_whole _) oM (Memref.isWhole_whole _) bM (Memref.isWhole_whole _)
    aM (Memref.isWhole_whole _) wbM (Memref.isWhole_whole _) mM (Memref.isWhole_whole _) gM (Memref.isWhole_whole _)
    cc0_scratch5 cc0_scratch6 cc0_scratch7 cc0_scratch8 cc0_scratch9 = steps := by
  chain_rfl

end Cert.A2A

end
-- ==== Proof.Common.lean ====
/-
# The devices, the semaphore cells, the contents and the schedule

What each device sends to which, what every semaphore's units hand over, and what every buffer holds when.
-/
module

public import proofs.«01_k».proof.Proof.Steps
public import Idealize.ShloMosaic.Lib.Pipeline.Launch
public import Idealize.ShloMosaic.Lib.Pipeline.Kit
public import Idealize.ShloMosaic.Lib.Pointwise.Index
public import Idealize.ShloMosaic.Lib.Transfers
public import Idealize.ShloMosaic.Lib.Pipeline.BigSepL
public import Idealize.ShloMosaic.Lib.Ring
public import Idealize.ShloMosaic.Lib.Tactic

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the schedule's, and the counters of the local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb : UEmb UU (MT nD τ sig Unit (Elt F) ℕ UU ℕ)).toEmb
instance ER_lands : (ER (F := F)).LandsIn upEmb := by unfold ER; infer_instance

variable (m : (ℓ : Loc nD τ sig) → Buf (Elt F) ℓ)

/-! ## The mesh -/

/-- The device `k + 1` places further on around the mesh. -/
def rot (c : Dev nD) (k : Fin 7) : Dev nD := ⟨(c.val + 1 + k.val) % 8, Nat.mod_lt _ (by decide)⟩

theorem rot_ne (c : Dev nD) (k : Fin 7) : rot c k ≠ c := by revert c k; decide
theorem ne_rot (c : Dev nD) (k : Fin 7) : c ≠ rot c k := fun h => rot_ne c k h.symm
/-- Going on by the complementary number of places comes back. -/
theorem rot_rev (c : Dev nD) (k : Fin 7) : rot (rot c k) k.rev = c := by revert c k; decide
theorem rev_rot (c : Dev nD) (k : Fin 7) : rot (rot c k.rev) k = c := by revert c k; decide

/-- A device's own number, then the others in the order it addresses them: all eight. -/
theorem mesh_list (c : Dev nD) : (Finset.univ : Finset (Dev nD)) = (c :: all7.map (rot c)).toFinset := by revert c; decide
theorem mesh_nodup (c : Dev nD) : (c :: all7.map (rot c)).Nodup := by revert c; decide
theorem others_list (c : Dev nD) : (Finset.univ.erase c : Finset (Dev nD)) = (all7.map (rot c)).toFinset := by revert c; decide
theorem others_nodup (c : Dev nD) : (all7.map (rot c)).Nodup := by revert c; decide

theorem devB_eq (k : Fin 7) (d : Dev nD) : devB k d = rot d k := by revert d k; decide +kernel
theorem devX_eq (k : Fin 7) (d : Dev nD) : devX k d = rot d k := by revert d k; decide +kernel
theorem devM_eq (k : Fin 7) (d : Dev nD) : devM k d = rot d k := by revert d k; decide +kernel

/-! ## The regions' corners, in closed form -/

theorem off5_eq (d : Dev nD) (k : Fin 7) : k0_off5 d (BitVec.ofNat 32 (1 + k.val)) = ![512 * (rot d k).val, 0] := by
  revert d k; decide +kernel
theorem off7_eq (d : Dev nD) (k : Fin 7) : k0_off7 d (BitVec.ofNat 32 (1 + k.val)) = ![(rot d k).val, 0, 0] := by
  revert d k; decide +kernel
theorem off11_eq (d : Dev nD) (k : Fin 7) : k0_off11 d (BitVec.ofNat 32 (1 + k.val)) = ![(rot d k).val, 0, 0] := by
  revert d k; decide +kernel
theorem off13_eq (d : Dev nD) (k : Fin 7) : k0_off13 d (BitVec.ofNat 32 (1 + k.val)) = ![(rot d k).val, 0, 0] := by
  revert d k; decide +kernel
theorem wOff_eq (d : Dev nD) (k : Fin 8) (h : Fin 4) :
    wOff h d (BitVec.ofNat 32 k.val) = ![512 * ((d.val + k.val) % 8), 2048 * h.val] := by
  revert d k h; decide +kernel

/-! ## The semaphores, by number -/

abbrev dmaAt (b : Nat) (hb : b ≤ 26) (k : Fin 8) : DmaSem sig := ⟨b + k.val, by have := k.isLt; show b + k.val < 36; omega⟩
theorem sem5_eq (k : Fin 8) : semAt cc0_scratch5 k = dmaAt 2 (by decide) k := by revert k; decide +kernel
theorem sem7_eq (k : Fin 8) : semAt cc0_scratch7 k = dmaAt 18 (by decide) k := by revert k; decide +kernel
theorem semMy6_eq (d : Dev nD) : semMy cc0_scratch6 d = dmaAt 10 (by decide) d := by revert d; decide +kernel
theorem semRot6_eq (d : Dev nD) (k : Fin 7) : semRot cc0_scratch6 d k = dmaAt 10 (by decide) (rot d k) := by revert d k; decide +kernel
theorem semMy8_eq (d : Dev nD) : semMy cc0_scratch8 d = dmaAt 26 (by decide) d := by revert d; decide +kernel
theorem semRot8_eq (d : Dev nD) (k : Fin 7) : semRot cc0_scratch8 d k = dmaAt 26 (by decide) (rot d k) := by revert d k; decide +kernel
theorem semW_eq (s : Fin 2) : semW s = (⟨34 + s.val, by have := s.isLt; show 34 + s.val < 36; omega⟩ : DmaSem sig) := by
  revert s; decide +kernel

/-- The barrier, left, arrived, left and arrived cells. -/
abbrev barC (c : Dev nD) : GSem nD τ sig := ((c : Thread nD τ), .reg barS)
abbrev sxC (c : Dev nD) (k : Fin 7) : GSem nD τ sig := ((c : Thread nD τ), .dma (dmaAt 2 (by decide) k.succ))
abbrev rxC (c j : Dev nD) : GSem nD τ sig := ((c : Thread nD τ), .dma (dmaAt 10 (by decide) j))
abbrev smC (c : Dev nD) (k : Fin 7) : GSem nD τ sig := ((c : Thread nD τ), .dma (dmaAt 18 (by decide) k.succ))
abbrev rmC (c j : Dev nD) : GSem nD τ sig := ((c : Thread nD τ), .dma (dmaAt 26 (by decide) j))

/-- What a semaphore is for. -/
inductive Kind | bar | sx (k : Fin 7) | rx (j : Fin 8) | sm (k : Fin 7) | rm (j : Fin 8) | none
deriving DecidableEq

def kind : SemLoc sig → Kind
  | .reg _ => .bar
  | .dma q =>
    if h : 3 ≤ q.val ∧ q.val - 3 < 7 then .sx ⟨q.val - 3, h.2⟩
    else if h : 10 ≤ q.val ∧ q.val - 10 < 8 then .rx ⟨q.val - 10, h.2⟩
    else if h : 19 ≤ q.val ∧ q.val - 19 < 7 then .sm ⟨q.val - 19, h.2⟩
    else if h : 26 ≤ q.val ∧ q.val - 26 < 8 then .rm ⟨q.val - 26, h.2⟩
    else .none

theorem kind_bar : kind (.reg barS) = .bar := rfl
theorem kind_sx (k : Fin 7) : kind (.dma (dmaAt 2 (by decide) k.succ)) = .sx k := by revert k; decide
theorem kind_rx (j : Fin 8) : kind (.dma (dmaAt 10 (by decide) j)) = .rx j := by revert j; decide
theorem kind_sm (k : Fin 7) : kind (.dma (dmaAt 18 (by decide) k.succ)) = .sm k := by revert k; decide
theorem kind_rm (j : Fin 8) : kind (.dma (dmaAt 26 (by decide) j)) = .rm j := by revert j; decide

/-! ## The contents -/

/-- The operand's column block on device `c`, as staged. -/
def xstg (c : Dev nD) : (cc0_stg0_0 : Ref sig .tc).ty.Contents (Elt F) :=
  (win0_0.blk (0 : Fin 1)).view.read (Elt F) (m ((c : Thread nD τ).loc main_arg0))
/-- The weights on device `c`. -/
def wA (c : Dev nD) : (main_arg1 : Ref sig .tc).ty.Contents (Elt F) := m ((c : Thread nD τ).loc main_arg1)
/-- The operand block, rounded. -/
def xb (c : Dev nD) : (cc0_scratch0 : Ref sig .tc).ty.Contents (Elt F) := k0_pay4 (xstg m c)
/-- Row block `j` of the rounded operand of device `i`. -/
def xrow (i : Dev nD) (j : Fin 8) : Vec F S512x512 .bf16 := fun y =>
  xb m i (ix2 (⟨512 * j.val + (y 0).val, by have h1 := (y 0).isLt; have h2 := j.isLt; simp at h1; omega⟩ : Fin 4096) (y 1))
/-- The gathered blocks on device `c`: slot `j` holds row block `c` of device `j`. -/
def xa (c : Dev nD) : (cc0_scratch1 : Ref sig .tc).ty.Contents (Elt F) := fun i => xrow m (i 0) c (ix2 (i 1) (i 2))
/-- The weight chunk of rotation `k`, column quarter `h`. -/
def wv (c : Dev nD) (k : Fin 8) (h : Fin 4) : Vec F S1x512x2048 .f32 := fun y =>
  wA m c (ix2 (⟨512 * ((c.val + k.val) % 8) + (y 1).val, by have h1 := (y 1).isLt; simp at h1; omega⟩ : Fin 4096)
    (⟨2048 * h.val + (y 2).val, by have h1 := (y 2).isLt; have h2 := h.isLt; simp at h1; omega⟩ : Fin 8192))
/-- The gathered block rotation `k + 1` reads. -/
def xaV (c : Dev nD) (k : Fin 7) : Vec F S1x512x512 .bf16 := fun y => xrow m (rot c k) c (ix2 (y 1) (y 2))

/-- The running product on column quarter `h` after `n` rotations beyond the first. -/
def acc (c : Dev nD) (h : Fin 4) : ℕ → Vec F S512x2048 .f32
  | 0 => k0_pay5 (xrow m c c) (wv m c 0 h)
  | n + 1 => if hn : n < 7 then k0_pay11 (xaV m c ⟨n, hn⟩) (wv m c (Fin.succ ⟨n, hn⟩) h) (acc c h n) else acc c h n

theorem acc_succ (c : Dev nD) (h : Fin 4) (k : Fin 7) : acc m c h (k.val + 1) = k0_pay11 (xaV m c k) (wv m c k.succ h) (acc m c h k.val) := by
  rw [acc, dif_pos k.isLt]

/-- The result buffer when every column quarter has had `n` rotations beyond the first. -/
def colC (c : Dev nD) (n : ℕ) : (cc0_stg1_0 : Ref sig .tc).ty.Contents (Elt F) := fun i =>
  acc m c ⟨(i 1).val / 2048, by have h1 : (i 1).val < 8192 := (i 1).isLt; omega⟩ n (ix2 (i 0) (⟨(i 1).val % 2048, Nat.mod_lt _ (by decide)⟩ : Fin 2048))

/-- Column eighth `i` of the finished product. -/
def yBlk (c : Dev nD) (i : Fin 8) : Vec F S512x1024 .f32 := fun y =>
  colC m c 7 (ix2 (y 0) (⟨1024 * i.val + (y 1).val, by have h1 := (y 1).isLt; have h2 := i.isLt; simp at h1; omega⟩ : Fin 8192))
/-- The local maximum, and its block of copies. -/
def lmax (c : Dev nD) : F .f32 := amaxOf (yBlk m c)
def lfill (c : Dev nD) : (cc0_scratch3 : Ref sig .tc).ty.Contents (Elt F) := amaxFill (yBlk m c)
/-- The gathered maxima on device `c`: its own slot as first filled, slot `j` device `j`'s copies. -/
def gC (c : Dev nD) : (cc0_scratch4 : Ref sig .tc).ty.Contents (Elt F) := fun i =>
  if (i 0).val = c.val then k0_pay3 (F := F) i else lfill m (i 0) (ix2 (i 1) (i 2))
/-- The global maximum as device `c` has it. -/
def gmax (c : Dev nD) : F .f32 := k0_pay53 (lmax m c) (gC m c)
/-- The result on device `c`. -/
def outC (c : Dev nD) : (cc0_stg1_0 : Ref sig .tc).ty.Contents (Elt F) := fun i =>
  k0_pay55 (gmax m c) (yBlk m c ⟨(i 1).val / 1024, by have h1 : (i 1).val < 8192 := (i 1).isLt; omega⟩)
    (ix2 (i 0) (⟨(i 1).val % 1024, Nat.mod_lt _ (by decide)⟩ : Fin 1024))

/-! ## The pieces of the buffers -/

theorem aInb (j : Fin 8) : ∀ a, (![j.val, 0, 0] : Fin 3 → Nat) a + S1x512x512.size a ≤ S8x512x512.size a := by revert j; decide
theorem gInb (j : Fin 8) : ∀ a, (![j.val, 0, 0] : Fin 3 → Nat) a + S1x8x128.size a ≤ S8x8x128.size a := by revert j; decide
theorem bInb (j : Fin 8) : ∀ a, (![512 * j.val, 0] : Fin 2 → Nat) a + S512x512.size a ≤ S4096x512.size a := by revert j; decide
abbrev aRect (j : Fin 8) : Rect S8x512x512 := Rect.unit (s := S8x512x512) ![j.val, 0, 0] S1x512x512.size (aInb j)
abbrev gSlot (j : Fin 8) : Rect S8x8x128 := Rect.unit (s := S8x8x128) ![j.val, 0, 0] S1x8x128.size (gInb j)
abbrev bRect (j : Fin 8) : Rect S4096x512 := Rect.unit (s := S4096x512) ![512 * j.val, 0] S512x512.size (bInb j)

/-- Slot `j` of the gathered blocks on device `c`, holding what `f` holds there; and so on. -/
def aPt (c : Dev nD) (j : Fin 8) (f : (cc0_scratch1 : Ref sig .tc).ty.Contents (Elt F)) : sProp 𝕄 :=
  ((c : Thread nD τ).loc cc0_scratch1) ↦[(aRect j).set]{fullShare} f
def gPt (c : Dev nD) (j : Fin 8) (f : (cc0_scratch4 : Ref sig .tc).ty.Contents (Elt F)) : sProp 𝕄 :=
  ((c : Thread nD τ).loc cc0_scratch4) ↦[(gSlot j).set]{fullShare} f
def bPt (c : Dev nD) (j : Fin 8) : sProp 𝕄 := ((c : Thread nD τ).loc cc0_scratch0) ↦[(bRect j).set]{fullShare} xb m c
/-- Share `k` of the local maximum's copies. -/
def mPt (c : Dev nD) (k : Fin 7) : sProp 𝕄 := ((c : Thread nD τ).loc cc0_scratch3) ↦{Transfers.shareTok fullShare 7 k} lfill m c

/-! ## The schedule -/

/-- The units one block of rows, one copy of the maximum, is worth. -/
abbrev N1 : ℕ := (aMy (0 : Dev nD)).view.dmaCredit
abbrev N2 : ℕ := (gMy (0 : Dev nD)).view.dmaCredit
theorem N1_pos : 0 < N1 := View.dmaCredit_pos _ (by decide)
theorem N2_pos : 0 < N2 := View.dmaCredit_pos _ (by decide)

/-- What device `d`'s units at a cell of device `c` hand to `c`: at the barrier, the slot of `d`'s gathered blocks that
    `c` fills; when a block has left, its rows back; when it has arrived, the slot holding it and the slot of `d`'s
    gathered maxima that `c` fills; when a copy of the maximum has left, its share back; when it has arrived, its slot. -/
def pay (c d : Dev nD) : Kind → sProp 𝕄
  | .bar => iprop(∃ f, aPt d c f)
  | .sx k => bPt m c (rot c k)
  | .rx j => iprop(aPt c j (xa m c) ∗ ∃ f, gPt j c f)
  | .sm k => mPt m c k
  | .rm j => gPt c j (gC m c)
  | .none => iprop(emp)

def dutiesOf (c : Dev nD) : Kind → Finset (Dev nD)
  | .bar => Finset.univ.erase c
  | .sx _ => {c}
  | .rx j => if j = c then ∅ else {j}
  | .sm _ => {c}
  | .rm j => if j = c then ∅ else {j}
  | .none => ∅

def amountOf : Kind → ℕ
  | .bar => 1 | .sx _ => N1 | .rx _ => N1 | .sm _ => N2 | .rm _ => N2 | .none => 1

theorem amountOf_pos (k : Kind) : 0 < amountOf k := by
  cases k
  · exact Nat.one_pos
  · exact N1_pos
  · exact N1_pos
  · exact N2_pos
  · exact N2_pos
  · exact Nat.one_pos

/-- One round at every cell of a TensorCore; a duty is named by the device that pays it. -/
def Rd : Rounds.Schedule (GSem nD τ sig) (Dev nD) 𝕄 where
  duties g r := if r = 0 ∧ g.1.2 = .tc then dutiesOf g.1.1 (kind g.2) else ∅
  unitless _ := False
  amount g _ _ := amountOf (kind g.2)
  payload g _ d := pay m g.1.1 d (kind g.2)
  amount_pos g _ _ _ := amountOf_pos _

instance aPt_storable (c j f) : BI.Storable (upEmb : UEmb _ 𝕄) (aPt (F := F) c j f) := by unfold aPt; infer_instance
instance gPt_storable (c j f) : BI.Storable (upEmb : UEmb _ 𝕄) (gPt (F := F) c j f) := by unfold gPt; infer_instance
instance bPt_storable (c j) : BI.Storable (upEmb : UEmb _ 𝕄) (bPt (F := F) m c j) := by unfold bPt; infer_instance
instance mPt_storable (c k) : BI.Storable (upEmb : UEmb _ 𝕄) (mPt (F := F) m c k) := by unfold mPt; infer_instance
instance pay_storable (c d : Dev nD) (k : Kind) : BI.Storable (upEmb : UEmb _ 𝕄) (pay (F := F) m c d k) := by
  cases k <;> (unfold pay; dsimp only) <;> infer_instance
instance Rd_storable (g : GSem nD τ sig) (r : ℕ) (d : Dev nD) : BI.Storable (upEmb : UEmb _ 𝕄) ((Rd (F := F) m).payload g r d) :=
  pay_storable m g.1.1 d (kind g.2)

theorem duties_eq (c : Dev nD) (s : SemLoc sig) : (Rd (F := F) m).duties ((c : Thread nD τ), s) 0 = dutiesOf c (kind s) := by
  dsimp only [Rd]; exact if_pos ⟨rfl, rfl⟩
theorem duties_later (g : GSem nD τ sig) : ∀ r, 1 ≤ r → (Rd (F := F) m).duties g r = ∅ :=
  fun r hr => by dsimp only [Rd]; exact if_neg fun h => by omega

theorem mem_bar (c : Dev nD) (k : Fin 7) : c ∈ (Rd (F := F) m).duties (barC (rot c k)) 0 := by
  rw [duties_eq]; exact Finset.mem_erase.mpr ⟨ne_rot c k, Finset.mem_univ _⟩
theorem duties_sx (c : Dev nD) (k : Fin 7) : (Rd (F := F) m).duties (sxC c k) 0 = {c} := by rw [duties_eq, kind_sx]; rfl
theorem duties_sm (c : Dev nD) (k : Fin 7) : (Rd (F := F) m).duties (smC c k) 0 = {c} := by rw [duties_eq, kind_sm]; rfl
theorem duties_rx (c j : Dev nD) (h : j ≠ c) : (Rd (F := F) m).duties (rxC c j) 0 = {j} := by rw [duties_eq, kind_rx]; exact if_neg h
theorem duties_rm (c j : Dev nD) (h : j ≠ c) : (Rd (F := F) m).duties (rmC c j) 0 = {j} := by rw [duties_eq, kind_rm]; exact if_neg h

theorem amount_sx (c d : Dev nD) (k : Fin 7) : (Rd (F := F) m).amount (sxC c k) 0 d = N1 := congrArg amountOf (kind_sx k)
theorem amount_sm (c d : Dev nD) (k : Fin 7) : (Rd (F := F) m).amount (smC c k) 0 d = N2 := congrArg amountOf (kind_sm k)
theorem amount_rx (c j d : Dev nD) : (Rd (F := F) m).amount (rxC c j) 0 d = N1 := congrArg amountOf (kind_rx j)
theorem amount_rm (c j d : Dev nD) : (Rd (F := F) m).amount (rmC c j) 0 d = N2 := congrArg amountOf (kind_rm j)

theorem payload_eq (c d : Dev nD) (s : SemLoc sig) (r : ℕ) : (Rd (F := F) m).payload ((c : Thread nD τ), s) r d = pay m c d (kind s) := rfl
theorem payload_bar (c d : Dev nD) : (Rd (F := F) m).payload (barC c) 0 d = iprop(∃ f, aPt d c f) := rfl
theorem payload_sx (c d : Dev nD) (k : Fin 7) : (Rd (F := F) m).payload (sxC c k) 0 d = bPt m c (rot c k) := by rw [payload_eq, kind_sx]; rfl
theorem payload_sm (c d : Dev nD) (k : Fin 7) : (Rd (F := F) m).payload (smC c k) 0 d = mPt m c k := by rw [payload_eq, kind_sm]; rfl
theorem payload_rx (c j d : Dev nD) : (Rd (F := F) m).payload (rxC c j) 0 d = iprop(aPt c j (xa m c) ∗ ∃ f, gPt j c f) := by rw [payload_eq, kind_rx]; rfl
theorem payload_rm (c j d : Dev nD) : (Rd (F := F) m).payload (rmC c j) 0 d = gPt c j (gC m c) := by rw [payload_eq, kind_rm]; rfl

theorem expect_bar (c : Dev nD) : (Rd (F := F) m).expect (barC c) 0 = 7 := by
  unfold Schedule.expect Schedule.amountOf
  rw [duties_eq]
  show ∑ d ∈ Finset.univ.erase c, 1 = 7
  rw [Finset.sum_const, smul_eq_mul, mul_one]
  revert c; decide
theorem expect_one (g : GSem nD τ sig) (d : Dev nD) (h : (Rd (F := F) m).duties g 0 = {d}) : (Rd (F := F) m).expect g 0 = (Rd (F := F) m).amount g 0 d := by
  unfold Schedule.expect Schedule.amountOf; rw [h, Finset.sum_singleton]
theorem rest_one (g : GSem nD τ sig) (d : Dev nD) (h : (Rd (F := F) m).duties g 0 = {d}) :
    bigSep ((Rd (F := F) m).duties g 0 \ ∅) (fun d => (Rd (F := F) m).payload g 0 d) = (Rd (F := F) m).payload g 0 d := by
  rw [Finset.sdiff_empty, h, bigSep_singleton]
/-- The barrier's round hands over the seven slots this device fills. -/
theorem rest_bar (c : Dev nD) : bigSep ((Rd (F := F) m).duties (barC c) 0 \ ∅) (fun d => (Rd (F := F) m).payload (barC c) 0 d)
    = bigSepL all7 fun k => iprop(∃ f, aPt (F := F) (rot c k) c f) := by
  rw [Finset.sdiff_empty, duties_eq]
  show bigSep (Finset.univ.erase c) _ = _
  rw [bigSep_eq_bigSepL_of_eq (all7.map (rot c)) (others_list c) (others_nodup c), bigSepL_map]
  rfl

/-! ## What a device owes at launch, and the levels -/

/-- The tallies of a list of cells on top of some others: the head's is the last added. -/
def owedL (base : CellTallies nD τ sig Unit) (cell : Fin 7 → GSem nD τ sig) (n : ℕ) : List (Fin 7) → CellTallies nD τ sig Unit
  | [] => base
  | k :: l => owedL base cell n l + tallyAt (cell k) () n

/-- The copies of the maximum still owed; then the blocks too; then the signals too. -/
def OM (c : Dev nD) (l : List (Fin 7)) : CellTallies nD τ sig Unit := owedL 0 (fun k => rmC (rot c k) c) N2 l
def OX (c : Dev nD) (l : List (Fin 7)) : CellTallies nD τ sig Unit := owedL (OM c all7) (fun k => rxC (rot c k) c) N1 l
def OB (c : Dev nD) (l : List (Fin 7)) : CellTallies nD τ sig Unit := owedL (OX c all7) (fun k => barC (rot c k)) 1 l
abbrev O₀ (c : Dev nD) : CellTallies nD τ sig Unit := OB c all7

theorem owedL_pos {base : CellTallies nD τ sig Unit} {cell : Fin 7 → GSem nD τ sig} {n : ℕ} {l : List (Fin 7)} {g : GSem nD τ sig} {u : Unit}
    (h : 0 < owedL base cell n l g u) : 0 < base g u ∨ ∃ k, g = cell k := by
  induction l with
  | nil => exact Or.inl h
  | cons k l ih =>
    unfold owedL at h
    rw [Pi.add_apply, Finsupp.add_apply, tallyAt_apply] at h
    by_cases hg : g = cell k
    · exact Or.inr ⟨k, hg⟩
    · rw [if_neg fun h' => hg h'.1, Nat.add_zero] at h
      exact ih h

def L (g : GSem nD τ sig) : Finset Unit := if g.1.2 = .tc then {()} else ∅
/-- Barrier cells at 1, cells a block arrives at 2, cells a maximum arrives at 3, everything else at 0. -/
def lvK : Kind → ℕ | .bar => 1 | .rx _ => 2 | .rm _ => 3 | .sx _ => 0 | .sm _ => 0 | .none => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

/-- Every cell of `O` is a TensorCore's and lies above level `b`. -/
def Above (b : ℕ) (O : CellTallies nD τ sig Unit) : Prop := ∀ g u, 0 < O g u → u ∈ L g ∧ b < lv g u

theorem above_zero (b : ℕ) : Above b 0 := fun g u h => absurd h (Nat.lt_irrefl 0)
theorem above_owedL {b : ℕ} {base : CellTallies nD τ sig Unit} {cell : Fin 7 → GSem nD τ sig} {n : ℕ} {l : List (Fin 7)} (hb : Above b base)
    (hc : ∀ k, () ∈ L (cell k) ∧ b < lv (cell k) ()) : Above b (owedL base cell n l) := fun g u h => by
  rcases owedL_pos h with h | ⟨k, rfl⟩
  · exact hb g u h
  · exact hc k
theorem above_OM {b : ℕ} (hb : b < 3) (c : Dev nD) (l : List (Fin 7)) : Above b (OM c l) :=
  above_owedL (above_zero b) fun k => ⟨Finset.mem_singleton_self _, by dsimp only [lv]; rw [kind_rm]; exact hb⟩
theorem above_OX {b : ℕ} (hb : b < 2) (c : Dev nD) (l : List (Fin 7)) : Above b (OX c l) :=
  above_owedL (above_OM (by omega) c all7) fun k => ⟨Finset.mem_singleton_self _, by dsimp only [lv]; rw [kind_rx]; exact hb⟩
theorem above_OB {b : ℕ} (hb : b < 1) (c : Dev nD) (l : List (Fin 7)) : Above b (OB c l) :=
  above_owedL (above_OX (by omega) c all7) fun k => ⟨Finset.mem_singleton_self _, by dsimp only [lv]; rw [kind_bar]; exact hb⟩

/-- A device may wait at a cell whose level lies below everything it owes. -/
theorem mayWait_of (c : Dev nD) (s : SemLoc sig) (O : CellTallies nD τ sig Unit) (h : Above (lvK (kind s)) O) :
    (levAts L lv : sProp 𝕄) ⊢ MayWait (c : Thread nD τ) s () O :=
  MayOwe.of_cut (L := L) (lev := lv) (lvK (kind s)) (fun p hp => by rw [Finset.mem_singleton.mp hp, L_tc]; exact Finset.mem_singleton_self _)
    (fun g u hg => (h g u hg).1)
    (fun p hp => by rw [Finset.mem_singleton.mp hp]; exact Nat.le_refl _)
    (fun g u hg => (h g u hg).2)

end Cert.A2A

end
-- ==== Proof.Pieces.lean ====
/-
# What the regions read and write

Every region the body names is a unit rectangle of one buffer, at a corner with a closed form. Here: where an index of
the region lies in the buffer, what a read through it gives at the contents of `Common`, and that what is written
through it agrees, on the region, with the contents that follow.
-/
module

public import proofs.«01_k».proof.Proof.Common

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Views in general -/

/-- What is written through a whole view agrees on the view's elements with any contents that hold the written values there. -/
theorem write_agree {κ : Idealize.ShloMosaic.Kind} {sp : Space} {s : Shape} {e : EltTy} {Val : EltTy → Type} (v : View sig κ sp s e) (f g : v.ty.Contents Val) (w : s.Idx → Val e)
    (h : ∀ y, _root_.cast (congrArg Val v.elt_eq.symm) (w y) = g (v.emb y)) (i : v.ty.Idx) (hi : i ∈ v.set) : v.write Val f w Finset.univ i = g i := by
  unfold View.set at hi
  obtain ⟨y, -, rfl⟩ := Finset.mem_map.mp hi
  rw [View.write_emb_of_mem f w (Finset.mem_univ y), h]

/-- An index of a unit rectangle lies at the corner plus itself. -/
theorem emb2 {A B a b o p : ℕ} (off : Fin 2 → ℕ) (hoff : off = ![o, p]) (inb) (y : (⟨2, ![a, b]⟩ : Shape).Idx) (h0 : o + (y 0).val < A) (h1 : p + (y 1).val < B) :
    (Rect.unit (s := ⟨2, ![A, B]⟩) off ![a, b] inb).emb y = ix2 (⟨o + (y 0).val, h0⟩ : Fin A) (⟨p + (y 1).val, h1⟩ : Fin B) := by
  subst hoff
  funext x
  match x with
  | ⟨0, _⟩ => exact Fin.ext (congrArg (o + ·) (Nat.one_mul _))
  | ⟨1, _⟩ => exact Fin.ext (congrArg (p + ·) (Nat.one_mul _))
theorem emb3 {A B C a b o : ℕ} (off : Fin 3 → ℕ) (hoff : off = ![o, 0, 0]) (inb) (y : (⟨3, ![1, a, b]⟩ : Shape).Idx) (h0 : o < A) (h1 : (y 1).val < B) (h2 : (y 2).val < C) :
    (Rect.unit (s := ⟨3, ![A, B, C]⟩) off ![1, a, b] inb).emb y = ix3 (⟨o, h0⟩ : Fin A) (⟨(y 1).val, h1⟩ : Fin B) (⟨(y 2).val, h2⟩ : Fin C) := by
  subst hoff
  funext x
  match x with
  | ⟨0, _⟩ =>
    refine Fin.ext ?_
    have hy : (y 0).val < 1 := (y 0).isLt
    show o + 1 * (y 0).val = o
    omega
  | ⟨1, _⟩ => exact Fin.ext (show 0 + 1 * (y 1).val = (y 1).val by omega)
  | ⟨2, _⟩ => exact Fin.ext (show 0 + 1 * (y 2).val = (y 2).val by omega)
/-- The same behind a dropped leading axis. -/
theorem embS {A B C a b o : ℕ} (off : Fin 3 → ℕ) (hoff : off = ![o, 0, 0]) (inb) (hn : (⟨2, ![a, b]⟩ : Shape).numel = (⟨3, ![1, a, b]⟩ : Shape).numel)
    (y : (⟨2, ![a, b]⟩ : Shape).Idx) (h0 : o < A) (h1 : (y 0).val < B) (h2 : (y 1).val < C) :
    (Rect.unit (s := ⟨3, ![A, B, C]⟩) off ![1, a, b] inb).emb (Shape.reshapeEquiv hn y) = ix3 (⟨o, h0⟩ : Fin A) (⟨(y 0).val, h1⟩ : Fin B) (⟨(y 1).val, h2⟩ : Fin C) := by
  rw [Shape.reshapeEquiv_cons_one hn y]
  exact emb3 off hoff inb _ h0 h1 h2

/-- A unit rectangle's elements depend on its corner alone. -/
theorem set_off {s : Shape} {off off' size : Fin s.rank → ℕ} {inb inb'} (h : off = off') :
    (Rect.unit (s := s) off size inb).set = (Rect.unit (s := s) off' size inb').set := by subst h; rfl

theorem d8 (d : Dev nD) : d.val < 8 := d.isLt

/-! ## The sends of blocks of rows -/

theorem aMy_set (d : Dev nD) : (aMy d).view.set = (aRect d).set :=
  ((View.set_reshape _ _).trans (View.set_slice_whole _ _)).trans (set_off (k0_off4_eq d))
theorem bRot_set (d : Dev nD) (k : Fin 7) : (bRot d k).view.set = (bRect (rot d k)).set :=
  (View.set_slice_whole _ _).trans (set_off (off5_eq d k))
theorem gMy_set (d : Dev nD) : (gMy d).view.set = (gSlot d).set :=
  ((View.set_reshape _ _).trans (View.set_slice_whole _ _)).trans (set_off (k0_off12_eq d))

theorem aMy_emb (d : Dev nD) (y : S512x512.Idx) : (aMy d).view.emb y = ix3 (⟨d.val, d8 d⟩ : Fin 8) (y 0) (y 1) :=
  embS (A := 8) (B := 512) (C := 512) _ (k0_off4_eq d) _ _ y (d8 d) (y 0).isLt (y 1).isLt
theorem bRot_emb (d : Dev nD) (k : Fin 7) (y : S512x512.Idx) : (bRot d k).view.emb y
    = ix2 (⟨512 * (rot d k).val + (y 0).val, by have := d8 (rot d k); have h : (y 0).val < 512 := (y 0).isLt; omega⟩ : Fin 4096) (y 1) := by
  refine (emb2 (A := 4096) (B := 512) _ (off5_eq d k) _ y (by have := d8 (rot d k); have h : (y 0).val < 512 := (y 0).isLt; omega) (by have h : (y 1).val < 512 := (y 1).isLt; omega)).trans ?_
  exact congrArg (ix2 _) (Fin.ext (Nat.zero_add _))
theorem gMy_emb (d : Dev nD) (y : S8x128.Idx) : (gMy d).view.emb y = ix3 (⟨d.val, d8 d⟩ : Fin 8) (y 0) (y 1) :=
  embS (A := 8) (B := 8) (C := 128) _ (k0_off12_eq d) _ _ y (d8 d) (y 0).isLt (y 1).isLt

/-- A block of rows lands as the receiver's slot of the sender. -/
theorem landX (d : Dev nD) (k : Fin 7) (f : (cc0_scratch1 : Ref sig .tc).ty.Contents (Elt F)) :
    ∀ i ∈ (aRect d).set, (aMy d).view.write (Elt F) f ((bRot d k).view.read (Elt F) (xb m d)) Finset.univ i = xa m (rot d k) i := by
  intro i hi
  refine write_agree (aMy d).view f (xa m (rot d k)) _ (fun y => ?_) i (by rw [aMy_set]; exact hi)
  rw [View.read_apply, bRot_emb, aMy_emb]
  rfl

/-- A copy of the maximum lands as the receiver's slot of the sender. -/
theorem landM (d : Dev nD) (k : Fin 7) (f : (cc0_scratch4 : Ref sig .tc).ty.Contents (Elt F)) :
    ∀ i ∈ (gSlot d).set, (gMy d).view.write (Elt F) f (mM.view.read (Elt F) (lfill m d)) Finset.univ i = gC m (rot d k) i := by
  intro i hi
  refine write_agree (gMy d).view f (gC m (rot d k)) _ (fun y => ?_) i (by rw [gMy_set]; exact hi)
  rw [View.read_apply, gMy_emb]
  refine Eq.trans (congrArg (lfill m d) (eq_ix2 y)) (if_neg (c := d.val = (rot d k).val) (fun h => ne_rot d k (Fin.ext h))).symm

/-- A device's own slot of the gathered maxima stays as first filled. -/
theorem gC_own (d : Dev nD) : ∀ i ∈ (gSlot d).set, gC m d i = k0_pay3 (F := F) i := by
  intro i hi
  unfold gC
  have h := (Rect.mem_set_unit.mp hi) 0
  exact if_pos (by have h1 : d.val ≤ (i 0).val := h.1; have h2 : (i 0).val < d.val + 1 := h.2; omega)

/-! ## The weight chunks -/

theorem wSrc_emb (d : Dev nD) (k : Fin 8) (h : Fin 4) (y : S512x2048.Idx) : (wSrc d k h).view.emb y
    = ix2 (⟨512 * ((d.val + k.val) % 8) + (y 0).val, by have h1 : (y 0).val < 512 := (y 0).isLt; omega⟩ : Fin 4096)
        (⟨2048 * h.val + (y 1).val, by have h1 : (y 1).val < 2048 := (y 1).isLt; have := h.isLt; omega⟩ : Fin 8192) :=
  emb2 (A := 4096) (B := 8192) _ (wOff_eq d k h) _ y _ _
theorem wDst_set (s : Fin 2) : (wDst s).view.set = (wRect s).set := (View.set_reshape _ _).trans (View.set_slice_whole _ _)

/-- What is read from a slot of the weight buffer after a chunk has been copied there. -/
theorem landW (d : Dev nD) (k : Fin 8) (h : Fin 4) (f : (cc0_scratch2 : Ref sig .tc).ty.Contents (Elt F)) :
    wbM.view.readAt (Elt F) (wRect (slot h)).toLoadRect ((wDst (slot h)).view.write (Elt F) f ((wSrc d k h).view.read (Elt F) (wA m d)) Finset.univ) = wv m d k h := by
  funext y
  have he : (wRect (slot h)).emb y = (wDst (slot h)).view.emb (ix2 (y 1) (y 2)) := by
    refine (emb3 (A := 2) (B := 512) (C := 2048) _ rfl _ y (slot h).isLt (y 1).isLt (y 2).isLt).trans ?_
    exact (embS (A := 2) (B := 512) (C := 2048) _ rfl _ _ (ix2 (y 1) (y 2)) (slot h).isLt (y 1).isLt (y 2).isLt).symm
  show (wDst (slot h)).view.write (Elt F) f ((wSrc d k h).view.read (Elt F) (wA m d)) Finset.univ ((wRect (slot h)).emb y) = _
  rw [he]
  refine (View.write_emb_of_mem (v := (wDst (slot h)).view) f _ (Finset.mem_univ _)).trans ?_
  rw [View.read_apply, wSrc_emb]
  rfl

/-! ## The reads of the operand blocks -/

theorem readOwn (d : Dev nD) : bM.view.readAt (Elt F) (ownRect d).toLoadRect (xb m d) = xrow m d d := by
  funext y
  show xb m d ((ownRect d).emb y) = _
  rw [show (ownRect d).emb y = _ from emb2 (A := 4096) (B := 512) _ (k0_off8_eq d) _ y (by have := d8 d; have h : (y 0).val < 512 := (y 0).isLt; omega) (by have h : (y 1).val < 512 := (y 1).isLt; omega)]
  exact congrArg (fun z => xb m d (ix2 _ z)) (Fin.ext (Nat.zero_add _))
theorem readRot (d : Dev nD) (k : Fin 7) : aM.view.readAt (Elt F) (rotRect d k).toLoadRect (xa m d) = xaV m d k := by
  funext y
  show xa m d ((rotRect d k).emb y) = _
  rw [show (rotRect d k).emb y = _ from emb3 (A := 8) (B := 512) (C := 512) _ (off11_eq d k) _ y (d8 _) (y 1).isLt (y 2).isLt]
  rfl
theorem own_set (d : Dev nD) : (ownRect d).set = (bRect d).set := set_off (k0_off8_eq d)
theorem rot_set (d : Dev nD) (k : Fin 7) : (rotRect d k).set = (aRect (rot d k)).set := set_off (off11_eq d k)

/-! ## The result's columns -/

theorem col_emb (h : Fin 4) (y : S512x2048.Idx) : (colRect h).emb y
    = ix2 (y 0) (⟨h.val * 2048 + (y 1).val, by have h1 : (y 1).val < 2048 := (y 1).isLt; have := h.isLt; omega⟩ : Fin 8192) := by
  refine (emb2 (A := 512) (B := 8192) _ rfl _ y (by have h1 : (y 0).val < 512 := (y 0).isLt; omega) (by have h1 : (y 1).val < 2048 := (y 1).isLt; have := h.isLt; omega)).trans ?_
  exact congrArg (fun z => ix2 z _) (Fin.ext (Nat.zero_add _))
theorem blk_emb (i : Fin 8) (y : S512x1024.Idx) : (blkRect i).emb y
    = ix2 (y 0) (⟨i.val * 1024 + (y 1).val, by have h1 : (y 1).val < 1024 := (y 1).isLt; have := i.isLt; omega⟩ : Fin 8192) := by
  refine (emb2 (A := 512) (B := 8192) _ rfl _ y (by have h1 : (y 0).val < 512 := (y 0).isLt; omega) (by have h1 : (y 1).val < 1024 := (y 1).isLt; have := i.isLt; omega)).trans ?_
  exact congrArg (fun z => ix2 z _) (Fin.ext (Nat.zero_add _))

theorem colC_emb (d : Dev nD) (h : Fin 4) (n : ℕ) (y : S512x2048.Idx) : colC m d n ((colRect h).emb y) = acc m d h n y := by
  have h1 : (y 1).val < 2048 := (y 1).isLt
  rw [col_emb]
  unfold colC
  have e1 : (⟨(h.val * 2048 + (y 1).val) / 2048, by have := h.isLt; omega⟩ : Fin 4) = h := Fin.ext (by show (h.val * 2048 + (y 1).val) / 2048 = h.val; omega)
  have e2 : (⟨(h.val * 2048 + (y 1).val) % 2048, Nat.mod_lt _ (by decide)⟩ : Fin 2048) = y 1 := Fin.ext (by show (h.val * 2048 + (y 1).val) % 2048 = (y 1).val; omega)
  show acc m d ⟨(h.val * 2048 + (y 1).val) / 2048, _⟩ n (ix2 (y 0) ⟨(h.val * 2048 + (y 1).val) % 2048, _⟩) = _
  rw [e1, e2]
  exact congrArg (acc m d h n) (eq_ix2 y).symm

theorem readCol (d : Dev nD) (h : Fin 4) (n : ℕ) : oM.view.readAt (Elt F) (colRect h).toLoadRect (colC m d n) = acc m d h n :=
  funext fun y => colC_emb m d h n y
theorem writeCol (d : Dev nD) (h : Fin 4) (n : ℕ) (f : (cc0_stg1_0 : Ref sig .tc).ty.Contents (Elt F)) (w : Vec F S512x2048 .f32) (hw : w = acc m d h n) :
    ∀ i ∈ (colRect h).set, (oM.access (colRect h)).write (Elt F) f w Finset.univ i = colC m d n i := by
  intro i hi
  refine write_agree (oM.access (colRect h)) f (colC m d n) w (fun y => ?_) i (by rw [show (oM.access (colRect h)).set = _ from View.set_slice_whole _ _]; exact hi)
  subst hw
  exact (colC_emb m d h n y).symm

theorem readBlk_eq (d : Dev nD) (i : Fin 8) : oM.view.readAt (Elt F) (blkRect i).toLoadRect (colC m d 7) = yBlk m d i := by
  funext y
  show colC m d 7 ((blkRect i).emb y) = _
  rw [blk_emb]
  exact congrArg (fun z => colC m d 7 (ix2 (y 0) z)) (Fin.ext (congrArg (· + (y 1).val) (Nat.mul_comm _ _)))
theorem outC_emb (d : Dev nD) (i : Fin 8) (y : S512x1024.Idx) : outC m d ((blkRect i).emb y) = k0_pay55 (gmax m d) (yBlk m d i) y := by
  have h1 : (y 1).val < 1024 := (y 1).isLt
  rw [blk_emb]
  unfold outC
  have e1 : (⟨(i.val * 1024 + (y 1).val) / 1024, by have := i.isLt; omega⟩ : Fin 8) = i := Fin.ext (by show (i.val * 1024 + (y 1).val) / 1024 = i.val; omega)
  have e2 : (⟨(i.val * 1024 + (y 1).val) % 1024, Nat.mod_lt _ (by decide)⟩ : Fin 1024) = y 1 := Fin.ext (by show (i.val * 1024 + (y 1).val) % 1024 = (y 1).val; omega)
  show k0_pay55 (gmax m d) (yBlk m d ⟨(i.val * 1024 + (y 1).val) / 1024, _⟩) (ix2 (y 0) ⟨(i.val * 1024 + (y 1).val) % 1024, _⟩) = _
  rw [e1, e2]
  exact congrArg (k0_pay55 (gmax m d) (yBlk m d i)) (eq_ix2 y).symm
theorem writeBlk (d : Dev nD) (i : Fin 8) (f : (cc0_stg1_0 : Ref sig .tc).ty.Contents (Elt F)) :
    ∀ j ∈ (blkRect i).set, (oM.access (blkRect i)).write (Elt F) f (k0_pay55 (gmax m d) (yBlk m d i)) Finset.univ j = outC m d j := by
  intro j hj
  refine write_agree (oM.access (blkRect i)) f (outC m d) _ (fun y => ?_) j (by rw [show (oM.access (blkRect i)).set = _ from View.set_slice_whole _ _]; exact hj)
  exact (outC_emb m d i y).symm

/-! ## Whole buffers -/

theorem z2 : (![0, 0] : Fin 2 → Nat) = fun _ => 0 := funext fun a => by fin_cases a <;> rfl
theorem z3 : (![0, 0, 0] : Fin 3 → Nat) = fun _ => 0 := funext fun a => by fin_cases a <;> rfl
theorem readX (f : (cc0_stg0_0 : Ref sig .tc).ty.Contents (Elt F)) : xM.view.readAt (Elt F) xRect.toLoadRect f = f := Memref.readAt_unit_zero (Elt F) cc0_stg0_0 z2 _ f
theorem writeB (f w : (cc0_scratch0 : Ref sig .tc).ty.Contents (Elt F)) : (bM.access xRect).write (Elt F) f w Finset.univ = w :=
  Memref.write_access_unit_zero_univ (Elt F) cc0_scratch0 z2 _ f w
theorem readG (f : (cc0_scratch4 : Ref sig .tc).ty.Contents (Elt F)) : gM.view.readAt (Elt F) gRect.toLoadRect f = f := Memref.readAt_unit_zero (Elt F) cc0_scratch4 z3 _ f
theorem writeG (f w : (cc0_scratch4 : Ref sig .tc).ty.Contents (Elt F)) : (gM.access gRect).write (Elt F) f w Finset.univ = w :=
  Memref.write_access_unit_zero_univ (Elt F) cc0_scratch4 z3 _ f w
theorem writeM (f w : (cc0_scratch3 : Ref sig .tc).ty.Contents (Elt F)) : (mM.access mRect).write (Elt F) f w Finset.univ = w :=
  Memref.write_access_unit_zero_univ (Elt F) cc0_scratch3 z2 _ f w

/-! ## The pieces make up their buffers -/

section Pieces
variable (c : Dev nD)

theorem a_split (f : (cc0_scratch1 : Ref sig .tc).ty.Contents (Elt F)) :
    ((((c : Thread nD τ).loc cc0_scratch1) ↦{fullShare} f : sProp 𝕄)) = bigSep Finset.univ fun j => aPt c j f :=
  Ring.pointsTo_blocks (ℓ := (c : Thread nD τ).loc cc0_scratch1) (fun j : Fin 8 => (aRect j).set)
    (Ring.lead_disjoint (s := S8x512x512) 0 1 (fun j => ![j.val, 0, 0]) S1x512x512.size aInb (by intro b; exact (Nat.one_mul _).symm) rfl)
    (Ring.lead_cover (s := S8x512x512) 0 1 (fun j => ![j.val, 0, 0]) S1x512x512.size aInb (by intro b; exact (Nat.one_mul _).symm) (by decide) rfl (by decide) (by decide)) f
include m in
theorem a_join : bigSep Finset.univ (fun j => iprop(∃ f, aPt c j f)) ⊢ (iprop(∃ f, ((c : Thread nD τ).loc cc0_scratch1) ↦{fullShare} f) : sProp 𝕄) :=
  Ring.pointsTo_blocks_join_exists (ℓ := (c : Thread nD τ).loc cc0_scratch1) (fun j : Fin 8 => (aRect j).set)
    (Ring.lead_disjoint (s := S8x512x512) 0 1 (fun j => ![j.val, 0, 0]) S1x512x512.size aInb (by intro b; exact (Nat.one_mul _).symm) rfl)
    (Ring.lead_cover (s := S8x512x512) 0 1 (fun j => ![j.val, 0, 0]) S1x512x512.size aInb (by intro b; exact (Nat.one_mul _).symm) (by decide) rfl (by decide) (by decide)) (xa m c)
theorem g_split (f : (cc0_scratch4 : Ref sig .tc).ty.Contents (Elt F)) :
    ((((c : Thread nD τ).loc cc0_scratch4) ↦{fullShare} f : sProp 𝕄)) = bigSep Finset.univ fun j => gPt c j f :=
  Ring.pointsTo_blocks (ℓ := (c : Thread nD τ).loc cc0_scratch4) (fun j : Fin 8 => (gSlot j).set)
    (Ring.lead_disjoint (s := S8x8x128) 0 1 (fun j => ![j.val, 0, 0]) S1x8x128.size gInb (by intro b; exact (Nat.one_mul _).symm) rfl)
    (Ring.lead_cover (s := S8x8x128) 0 1 (fun j => ![j.val, 0, 0]) S1x8x128.size gInb (by intro b; exact (Nat.one_mul _).symm) (by decide) rfl (by decide) (by decide)) f
theorem b_split : ((((c : Thread nD τ).loc cc0_scratch0) ↦{fullShare} xb m c : sProp 𝕄)) = bigSep Finset.univ fun j => bPt m c j :=
  Ring.pointsTo_blocks (ℓ := (c : Thread nD τ).loc cc0_scratch0) (fun j : Fin 8 => (bRect j).set)
    (Ring.lead_disjoint (s := S4096x512) 0 512 (fun j => ![512 * j.val, 0]) S512x512.size bInb (by intro b; rfl) rfl)
    (Ring.lead_cover (s := S4096x512) 0 512 (fun j => ![512 * j.val, 0]) S512x512.size bInb (by intro b; rfl) (by decide) rfl (by decide) (by decide)) (xb m c)

/-- A slot of the weight buffer; a column quarter and a column eighth of the result. -/
def wPt (s : Fin 2) (f : (cc0_scratch2 : Ref sig .tc).ty.Contents (Elt F)) : sProp 𝕄 :=
  ((c : Thread nD τ).loc cc0_scratch2) ↦[(wRect s).set]{fullShare} f
def colPt (h : Fin 4) (f : (cc0_stg1_0 : Ref sig .tc).ty.Contents (Elt F)) : sProp 𝕄 :=
  ((c : Thread nD τ).loc cc0_stg1_0) ↦[(colRect h).set]{fullShare} f
def blkPt (i : Fin 8) (f : (cc0_stg1_0 : Ref sig .tc).ty.Contents (Elt F)) : sProp 𝕄 :=
  ((c : Thread nD τ).loc cc0_stg1_0) ↦[(blkRect i).set]{fullShare} f

theorem w_split (f : (cc0_scratch2 : Ref sig .tc).ty.Contents (Elt F)) :
    ((((c : Thread nD τ).loc cc0_scratch2) ↦{fullShare} f : sProp 𝕄)) = bigSep Finset.univ fun s => wPt c s f :=
  Ring.pointsTo_blocks (ℓ := (c : Thread nD τ).loc cc0_scratch2) (fun j : Fin 2 => (wRect j).set)
    (Ring.lead_disjoint (s := S2x512x2048) 0 1 (fun j => ![j.val, 0, 0]) S1x512x2048.size slot_inb (by intro b; exact (Nat.one_mul _).symm) rfl)
    (Ring.lead_cover (s := S2x512x2048) 0 1 (fun j => ![j.val, 0, 0]) S1x512x2048.size slot_inb (by intro b; exact (Nat.one_mul _).symm) (by decide) rfl (by decide) (by decide)) f
include m in
theorem w_join : bigSep Finset.univ (fun s => iprop(∃ f, wPt c s f)) ⊢ (iprop(∃ f, ((c : Thread nD τ).loc cc0_scratch2) ↦{fullShare} f) : sProp 𝕄) :=
  Ring.pointsTo_blocks_join_exists (ℓ := (c : Thread nD τ).loc cc0_scratch2) (fun j : Fin 2 => (wRect j).set)
    (Ring.lead_disjoint (s := S2x512x2048) 0 1 (fun j => ![j.val, 0, 0]) S1x512x2048.size slot_inb (by intro b; exact (Nat.one_mul _).symm) rfl)
    (Ring.lead_cover (s := S2x512x2048) 0 1 (fun j => ![j.val, 0, 0]) S1x512x2048.size slot_inb (by intro b; exact (Nat.one_mul _).symm) (by decide) rfl (by decide) (by decide))
    (fun i => wA m c (ix2 (⟨(i 1).val, Nat.lt_trans (show (i 1).val < 512 from (i 1).isLt) (by decide)⟩ : Fin 4096) (⟨(i 2).val, Nat.lt_trans (show (i 2).val < 2048 from (i 2).isLt) (by decide)⟩ : Fin 8192)))
theorem col_split (f : (cc0_stg1_0 : Ref sig .tc).ty.Contents (Elt F)) :
    ((((c : Thread nD τ).loc cc0_stg1_0) ↦{fullShare} f : sProp 𝕄)) = bigSep Finset.univ fun h => colPt c h f :=
  Ring.pointsTo_blocks (ℓ := (c : Thread nD τ).loc cc0_stg1_0) (fun j : Fin 4 => (colRect j).set)
    (Ring.lead_disjoint (s := S512x8192) 1 2048 (fun j => ![0, j.val * 2048]) S512x2048.size col_inb (by intro b; exact Nat.mul_comm _ _) rfl)
    (Ring.lead_cover (s := S512x8192) 1 2048 (fun j => ![0, j.val * 2048]) S512x2048.size col_inb (by intro b; exact Nat.mul_comm _ _) (by decide) rfl (by decide) (by decide)) f
theorem blk_split (f : (cc0_stg1_0 : Ref sig .tc).ty.Contents (Elt F)) :
    ((((c : Thread nD τ).loc cc0_stg1_0) ↦{fullShare} f : sProp 𝕄)) = bigSep Finset.univ fun h => blkPt c h f :=
  Ring.pointsTo_blocks (ℓ := (c : Thread nD τ).loc cc0_stg1_0) (fun j : Fin 8 => (blkRect j).set)
    (Ring.lead_disjoint (s := S512x8192) 1 1024 (fun j => ![0, j.val * 1024]) S512x1024.size blk_inb (by intro b; exact Nat.mul_comm _ _) rfl)
    (Ring.lead_cover (s := S512x8192) 1 1024 (fun j => ![0, j.val * 1024]) S512x1024.size blk_inb (by intro b; exact Nat.mul_comm _ _) (by decide) rfl (by decide) (by decide)) f

/-- A family over the devices is its member at `c` and those at the others, in the order `c` addresses them. -/
theorem mesh_split (Φ : Dev nD → sProp 𝕄) : bigSep Finset.univ Φ = iprop(Φ c ∗ bigSepL all7 fun k => Φ (rot c k)) := by
  rw [bigSep_univ_eq_bigSepL (c :: all7.map (rot c)) (mesh_list c) (mesh_nodup c) Φ, bigSepL_cons', bigSepL_map]

end Pieces

end Cert.A2A

end
-- ==== Proof.Moves.lean ====
/-
# The steps, each from what it needs to what it leaves

One theorem per step, at a symbolic device and step number: whatever is true after the step when it leaves these
resources is reached from those.
-/
module

public import proofs.«01_k».proof.Proof.Pieces

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Programs on a device -/

abbrev 𝒱₀ : Variants := Variants.none
/-- What must hold for the program `p`, run on device `c`, to end in `K`. -/
abbrev WP (c : Dev nD) {α : Type} (p : P F α) (K : α → sProp 𝕄) : sProp 𝕄 :=
  wp frame (wpE (defs₀ (F := F)) 𝒱₀ (c : Thread nD τ) none) Set.univ p K

theorem ret_rule (c : Dev nD) {α : Type} (a : α) (K : α → sProp 𝕄) : K a ⊢ WP c (Prog.ret a : P F α) K := by
  unfold WP; rw [wp_ret]; iintro H; imodintro; iexact H

/-- A loop: each step takes its own resources and what is carried, and leaves its own results and what is carried on. -/
theorem runL_rule (c : Dev nD) {α : Type} (f : α → P F PUnit) (Γ : sProp 𝕄) [BI.Persistent Γ] (R Q : α → sProp 𝕄) (C : List α → sProp 𝕄)
    (step : ∀ a l (K : PUnit → sProp 𝕄), iprop(Γ ∗ R a ∗ C (a :: l) ∗ ((Q a ∗ C l) -∗ K ⟨⟩)) ⊢ WP c (f a) K) (l : List α) (K : PUnit → sProp 𝕄) :
    iprop(Γ ∗ bigSepL l R ∗ C l ∗ ((bigSepL l Q ∗ C []) -∗ K ⟨⟩)) ⊢ WP c (runL f l) K := by
  induction l generalizing K with
  | nil =>
    unfold runL
    refine BIBase.Entails.trans ?_ (ret_rule c _ K)
    rw [bigSepL_nil, bigSepL_nil]
    iintro ⟨-, HR, HC, HK⟩
    iapply HK
    isplitl [HR] <;> iassumption
  | cons a l ih =>
    unfold runL WP
    rw [wp_bind, bigSepL_cons', bigSepL_cons']
    iintro ⟨#HΓ, ⟨HRa, HR⟩, HC, HK⟩
    iapply (step a l (fun _ => WP c (runL f l) K))
    isplitr; · iexact HΓ
    isplitl [HRa]; · iexact HRa
    isplitl [HC]; · iexact HC
    iintro ⟨HQ, HC⟩
    iapply (ih K)
    isplitr; · iexact HΓ
    isplitl [HR]; · iexact HR
    isplitl [HC]; · iexact HC
    iintro ⟨HQl, HC⟩
    iapply HK
    isplitl [HQ HQl]
    · isplitl [HQ] <;> iassumption
    · iexact HC

/-! ## What every device knows -/

/-- The cells the schedule speaks of: the barrier and the DMA semaphores 2 to 33. -/
def csem (i : Fin 33) : SemLoc sig := if i.val = 0 then .reg barS else .dma (⟨i.val + 1, by have := i.isLt; show i.val + 1 < 36; omega⟩ : DmaSem sig)
abbrev kcell (ck : Dev nD × Fin 33) : GSem nD τ sig := ((ck.1 : Thread nD τ), csem ck.2)

/-- A cell keeps to the schedule, and is at its first round. -/
def cinv (g : GSem nD τ sig) : sProp 𝕄 := iprop((∃ κ, cellInv ER (Rd m) κ g) ∗ reached ER g 0)
instance cinv_persistent (g : GSem nD τ sig) : BI.Persistent (cinv (F := F) m g) := by unfold cinv; infer_instance

/-- Every cell keeps to the schedule; the levels. -/
def Ctx : sProp 𝕄 := iprop((bigSep Finset.univ fun ck : Dev nD × Fin 33 => cinv m (kcell ck)) ∗ levAts L lv)
instance Ctx_persistent : BI.Persistent (Ctx (F := F) m) := by unfold Ctx; infer_instance

theorem ctx_at (c : Dev nD) (i : Fin 33) (s : SemLoc sig) (h : csem i = s) : Ctx m ⊢ cinv m ((c : Thread nD τ), s) := by
  subst h
  have h : (bigSep Finset.univ fun ck : Dev nD × Fin 33 => cinv m (kcell ck)) ⊢ cinv m (kcell (c, i)) := bigSep_elim (Finset.mem_univ (c, i))
  unfold Ctx
  iintro ⟨H, -⟩
  iapply h
  iexact H
theorem ctx_lev : Ctx m ⊢ (levAts L lv : sProp 𝕄) := by unfold Ctx; iintro ⟨-, H⟩; iexact H

def iSx (k : Fin 7) : Fin 33 := ⟨2 + k.val, by have := k.isLt; omega⟩
def iRx (j : Fin 8) : Fin 33 := ⟨9 + j.val, by have := j.isLt; omega⟩
def iSm (k : Fin 7) : Fin 33 := ⟨18 + k.val, by have := k.isLt; omega⟩
def iRm (j : Fin 8) : Fin 33 := ⟨25 + j.val, by have := j.isLt; omega⟩
theorem csem_sx (k : Fin 7) : csem (iSx k) = .dma (dmaAt 2 (by decide) k.succ) := by revert k; decide
theorem csem_rx (j : Fin 8) : csem (iRx j) = .dma (dmaAt 10 (by decide) j) := by revert j; decide
theorem csem_sm (k : Fin 7) : csem (iSm k) = .dma (dmaAt 18 (by decide) k.succ) := by revert k; decide
theorem csem_rm (j : Fin 8) : csem (iRm j) = .dma (dmaAt 26 (by decide) j) := by revert j; decide
theorem ctx_bar (c : Dev nD) : Ctx m ⊢ cinv m (barC c) := ctx_at m c 0 _ rfl
theorem ctx_sx (c : Dev nD) (k : Fin 7) : Ctx m ⊢ cinv m (sxC c k) := ctx_at m c _ _ (csem_sx k)
theorem ctx_rx (c j : Dev nD) : Ctx m ⊢ cinv m (rxC c j) := ctx_at m c _ _ (csem_rx j)
theorem ctx_sm (c : Dev nD) (k : Fin 7) : Ctx m ⊢ cinv m (smC c k) := ctx_at m c _ _ (csem_sm k)
theorem ctx_rm (c j : Dev nD) : Ctx m ⊢ cinv m (rmC c j) := ctx_at m c _ _ (csem_rm j)

/-- What a device owes, whatever it has waited for. -/
def ow (c : Dev nD) (O : CellTallies nD τ sig Unit) : sProp 𝕄 := iprop(∃ W, owes (c : Thread nD τ) O W)

/-! ## Signals and the barrier -/

theorem signal_at (d n : Dev nD) (k : Fin 7) (hn : n = rot d k) (l : List (Fin 7)) (K : PUnit → sProp 𝕄) :
    iprop(Ctx m ∗ (dutyTok ER (barC (rot d k)) 0 d ∗ ∃ f, aPt d (rot d k) f) ∗ ow d (OB d (k :: l)) ∗ ((emp ∗ ow d (OB d l)) -∗ K ⟨⟩))
      ⊢ WP d (semSignalWord n barS 1#32) K := by
  subst hn
  unfold semSignalWord ow
  iintro ⟨#HΓ, ⟨Ht, Hf⟩, ⟨%W, HO⟩, HK⟩
  ihave #Hc := (ctx_bar m (rot d k)) $$ HΓ
  unfold cinv
  icases Hc with ⟨⟨%κ, Hi⟩, Hr⟩
  iapply (Rounds.wp_signal 𝒱₀ ER (Rd m) (d : Thread nD τ) none (dst := (rot d k : Thread nD τ)) (κ := κ)
      (d := d) (mem_bar m d k) ((congrArg amountOf kind_bar).trans (by decide)) () (OB d l) rfl) $$ [HO Ht Hf]
  · isplitr; · iexact Hi
    isplitl [HO]; · iexact HO
    isplitl [Ht]; · iexact Ht
    isplitl [Hf]; · rw [payload_bar]; iexact Hf
    iexact Hr
  iintro HO
  rw [wp_ret]; imodintro
  iapply HK
  isplitr; · iempintro
  iexists W; iexact HO

/-- The `k`-th signal pays one unit at the barrier of the device it goes to, and hands over the slot that device fills. -/
theorem signal_step (d : Dev nD) (k : Fin 7) (l : List (Fin 7)) (K : PUnit → sProp 𝕄) :
    iprop(Ctx m ∗ (dutyTok ER (barC (rot d k)) 0 d ∗ ∃ f, aPt d (rot d k) f) ∗ ow d (OB d (k :: l)) ∗ ((emp ∗ ow d (OB d l)) -∗ K ⟨⟩))
      ⊢ WP d (signal d k) K :=
  signal_at m d _ k (devB_eq k d) l K

/-- A wait at an own cell for its whole round, the cell then closed: what its duties hand over, its counter at zero. -/
theorem wait_step (d : Dev nD) (s : SemLoc sig) (w : TpuEff nD τ sig (Elt F) Λ₀ .tc PUnit) (N : ℕ) (O : CellTallies nD τ sig Unit)
    (hw : ∀ K : PUnit → sProp 𝕄, wpE (defs₀ (F := F)) 𝒱₀ (d : Thread nD τ) none Set.univ w K = waitSpec (d : Thread nD τ) Set.univ s N K)
    (hN : (Rd (F := F) m).expect ((d : Thread nD τ), s) 0 = N) (hO : Above (lvK (kind s)) O) (K : PUnit → sProp 𝕄) :
    iprop(Ctx m ∗ cinv m ((d : Thread nD τ), s) ∗ cred (tallyAt ((d : Thread nD τ), s) () N) ∗ atPos ER ((d : Thread nD τ), s) 0 ∅ 0 ∗ ow d O
        ∗ ((bigSep ((Rd (F := F) m).duties ((d : Thread nD τ), s) 0 \ ∅) (fun j => (Rd (F := F) m).payload ((d : Thread nD τ), s) 0 j)
            ∗ semVal ((d : Thread nD τ), s) 0 ∗ ow d O) -∗ K ⟨⟩))
      ⊢ WP d (Prog.lift w) K := by
  unfold Prog.lift ow cinv
  iintro ⟨#HΓ, ⟨⟨%κ, #Hi⟩, #Hr⟩, Hc, Ha, ⟨%W, HO⟩, HK⟩
  iapply (Rounds.wp_wait_rest_token 𝒱₀ ER (Rd m) (d : Thread nD τ) none (κ := κ) hw (Set.mem_univ _) () (O := O) (W := W) (R := 0) (m := 0) (T := ∅)
      (by rw [Nat.zero_add, hN])) $$ [Hc HO Ha]
  · isplitr; · iexact Hi
    isplitl [Hc]; · iexact Hc
    isplitl [HO]; · iexact HO
    isplitr; · iapply (mayWait_of d s O hO); iapply (ctx_lev m); iexact HΓ
    iexact Ha
  iintro ⟨HO, Ha, -, Hpay⟩
  rw [wp_ret]
  imod (Rounds.cell_close ER (Rd m) (Set.mem_univ κ) (fun h => h) (R := 0 + 1) (duties_later m ((d : Thread nD τ), s))) $$ [Ha] with Hz
  · isplitr; · iexact Hi
    iexact Ha
  imodintro
  iapply HK
  isplitl [Hpay]; · iexact Hpay
  isplitl [Hz]; · iexact Hz
  iexists _; iexact HO

/-- The same for a wait for a copy, on a semaphore known by number. -/
theorem waitDma_step (d : Dev nD) {q q' : DmaSem sig} (hq : q = q') {sp sp' : Space} {s s' : Shape} {e e' : EltTy}
    {src : Memref sig .tc sp' s' e'} {dst : Memref sig .tc sp s e} {hsrc : src.view.WordExact} {hdst : dst.view.WordExact}
    (j : Dev nD) (N : ℕ) (hN : dst.view.dmaCredit = N) (O : CellTallies nD τ sig Unit)
    (hd : (Rd (F := F) m).duties ((d : Thread nD τ), .dma q') 0 = {j})
    (ha : (Rd (F := F) m).amount ((d : Thread nD τ), .dma q') 0 j = N) (hO : Above (lvK (kind (.dma q'))) O) (K : PUnit → sProp 𝕄) :
    iprop(Ctx m ∗ cinv m ((d : Thread nD τ), .dma q') ∗ (cred (tallyAt ((d : Thread nD τ), .dma q') () N) ∗ atPos ER ((d : Thread nD τ), .dma q') 0 ∅ 0) ∗ ow d O
        ∗ (((Rd (F := F) m).payload ((d : Thread nD τ), .dma q') 0 j ∗ semVal ((d : Thread nD τ), .dma q') 0 ∗ ow d O) -∗ K ⟨⟩))
      ⊢ WP d (Prog.lift (.waitDma2 q src dst hsrc hdst)) K := by
  subst hq hN
  iintro ⟨#HΓ, #Hb, ⟨Hc, Ha⟩, HO, HK⟩
  iapply (wait_step m d (.dma q) (.waitDma2 q src dst hsrc hdst) dst.view.dmaCredit O (wpE_waitDma2_eq 𝒱₀ (d : Thread nD τ) none Set.univ)
    ((expect_one m _ j hd).trans ha) hO K)
  isplitr; · iexact HΓ
  isplitr; · iexact Hb
  isplitl [Hc]; · iexact Hc
  isplitl [Ha]; · iexact Ha
  isplitl [HO]; · iexact HO
  rw [rest_one m _ j hd]
  iexact HK

theorem barWait_step (d : Dev nD) (K : PUnit → sProp 𝕄) :
    iprop(Ctx m ∗ cred (tallyAt (barC d) () 7) ∗ atPos ER (barC d) 0 ∅ 0 ∗ ow d (OX d all7)
        ∗ (((bigSepL all7 fun k => iprop(∃ f, aPt (F := F) (rot d k) d f)) ∗ semVal (barC d) 0 ∗ ow d (OX d all7)) -∗ K ⟨⟩))
      ⊢ WP d barWait K := by
  iintro ⟨#HΓ, Hc, Ha, HO, HK⟩
  ihave #Hb := (ctx_bar m d) $$ HΓ
  unfold barWait semWaitWord
  iapply (wait_step m d (.reg barS) _ 7 (OX d all7) (wpE_semWait_eq 𝒱₀ (d : Thread nD τ) none Set.univ) (expect_bar m d)
    (above_OX (by decide) d all7) K)
  isplitr; · iexact HΓ
  isplitr; · iexact Hb
  isplitl [Hc]; · iexact Hc
  isplitl [Ha]; · iexact Ha
  isplitl [HO]; · iexact HO
  rw [rest_bar]
  iexact HK

/-! ## The remote copies -/

theorem sendX_at (d n : Dev nD) (k : Fin 7) (hn : n = rot d k) (s1 s2 : DmaSem sig) (hs1 : s1 = dmaAt 2 (by decide) k.succ) (hs2 : s2 = dmaAt 10 (by decide) d)
    {hsc : (aMy d : Memref sig (Dev.tc n : Thread nD τ).2.kind .vmem _ _).view.ref.isScScratch = false} {hsrc : (bRot d k).view.WordExact} {hdst : (aMy d).view.WordExact}
    {hsem : DmaTarget.Typed .vmem (.dma s2) (.remote (Dev.tc n : Thread nD τ) (aMy d) (.dma s1) hsc)} (l : List (Fin 7)) (K : PUnit → sProp 𝕄) :
    iprop(Ctx m ∗ (dutyTok ER (sxC d k) 0 d ∗ dutyTok ER (rxC (rot d k) d) 0 d ∗ bPt m d (rot d k) ∗ (∃ f, aPt (rot d k) d f) ∗ (∃ f, gPt d (rot d k) f))
        ∗ ow d (OX d (k :: l)) ∗ ((cred (tallyAt (sxC d k) () N1) ∗ ow d (OX d l)) -∗ K ⟨⟩))
      ⊢ WP d (.op (.enqueueDma (bRot d k) (.remote (Dev.tc n : Thread nD τ) (aMy d) (.dma s1) hsc) (.dma s2) hsrc hdst hsem) Prog.ret) K := by
  subst hn hs1 hs2
  unfold ow
  iintro ⟨#HΓ, ⟨Ht1, Ht2, Hb, ⟨%f, Hf⟩, Hg⟩, ⟨%W, HO⟩, HK⟩
  ihave #Hc1 := (ctx_sx m d k) $$ HΓ
  ihave #Hc2 := (ctx_rx m (rot d k) d) $$ HΓ
  unfold cinv
  icases Hc1 with ⟨⟨%κ₁, Hi1⟩, Hr1⟩
  icases Hc2 with ⟨⟨%κ₂, Hi2⟩, Hr2⟩
  iapply (Rounds.wp_send_pointsTo_with 𝒱₀ ER (Rd m) (d : Thread nD τ) none (c' := (rot d k : Thread nD τ)) (src := bRot d k) (dst := aMy d)
      (fs := xb m d) (fd := f) (F := iprop(∃ f, gPt d (rot d k) f)) (κ₁ := κ₁) (κ₂ := κ₂)
      (r₁ := 0) (r₂ := 0) (d₁ := d) (d₂ := d) (q := fullShare)
      (by rw [duties_sx]; exact Finset.mem_singleton_self _) (by rw [duties_rx m _ _ (ne_rot d k)]; exact Finset.mem_singleton_self _)
      () () N1 rfl (amount_sx m d d k) (amount_rx m (rot d k) d d) (OX d l) rfl (W := W)
      (by rw [payload_sx, bRot_set]; exact BI.Entails.refl _)
      (by rw [payload_rx, aMy_set]; exact sep_mono_left (Entails.of_eq (pointsTo_congr (landX m d k f))))) $$ [HO Ht1 Ht2 Hb Hf Hg]
  · isplitr; · iexact Hi1
    isplitr; · iexact Hi2
    isplitl [Hb]; · rw [bRot_set]; unfold bPt; iexact Hb
    isplitl [Hf Hg]
    · isplitl [Hf]; · rw [aMy_set]; unfold aPt; iexact Hf
      iexact Hg
    isplitl [HO]; · iexact HO
    isplitl [Ht1]; · iexact Ht1
    isplitr; · iexact Hr1
    isplitl [Ht2]; · iexact Ht2
    iexact Hr2
  iintro ⟨Hc, HO⟩
  rw [wp_ret]; imodintro
  iapply HK
  isplitl [Hc]; · iexact Hc
  iexists W; iexact HO

/-- The `k`-th block of rows is sent: its rows and the slot they land in are handed over, the right to wait for it gained. -/
theorem sendX_step (d : Dev nD) (k : Fin 7) (l : List (Fin 7)) (K : PUnit → sProp 𝕄) :
    iprop(Ctx m ∗ (dutyTok ER (sxC d k) 0 d ∗ dutyTok ER (rxC (rot d k) d) 0 d ∗ bPt m d (rot d k) ∗ (∃ f, aPt (rot d k) d f) ∗ (∃ f, gPt d (rot d k) f))
        ∗ ow d (OX d (k :: l)) ∗ ((cred (tallyAt (sxC d k) () N1) ∗ ow d (OX d l)) -∗ K ⟨⟩))
      ⊢ WP d (sendX d k) K :=
  sendX_at m d _ k (devX_eq k d) _ _ (sem5_eq _) (semMy6_eq d) l K

/-- The buffer a copy of the maximum leaves from is taken whole. -/
theorem mM_all (c : Dev nD) (q : PosShare TreeShare) (f : Buf (Elt F) ((c : Thread nD τ).loc cc0_scratch3)) :
    (((mM.view.loc (c : Thread nD τ)) ↦[mM.view.set]{q} f : sProp 𝕄)) = (((c : Thread nD τ).loc cc0_scratch3) ↦{q} f) := by
  have h : mM.view.set = Finset.univ := View.set_whole cc0_scratch3
  exact congrArg (fun I => (((c : Thread nD τ).loc cc0_scratch3) ↦[I]{q} f : sProp 𝕄)) h

theorem sendM_at (d n : Dev nD) (k : Fin 7) (hn : n = rot d k) (s1 s2 : DmaSem sig) (hs1 : s1 = dmaAt 18 (by decide) k.succ) (hs2 : s2 = dmaAt 26 (by decide) d)
    {hsc : (gMy d : Memref sig (Dev.tc n : Thread nD τ).2.kind .vmem _ _).view.ref.isScScratch = false} {hsrc : (mM).view.WordExact} {hdst : (gMy d).view.WordExact}
    {hsem : DmaTarget.Typed .vmem (.dma s2) (.remote (Dev.tc n : Thread nD τ) (gMy d) (.dma s1) hsc)} (l : List (Fin 7)) (K : PUnit → sProp 𝕄) :
    iprop(Ctx m ∗ (dutyTok ER (smC d k) 0 d ∗ dutyTok ER (rmC (rot d k) d) 0 d ∗ mPt m d k ∗ (∃ f, gPt (rot d k) d f))
        ∗ ow d (OM d (k :: l)) ∗ ((cred (tallyAt (smC d k) () N2) ∗ ow d (OM d l)) -∗ K ⟨⟩))
      ⊢ WP d (.op (.enqueueDma (mM) (.remote (Dev.tc n : Thread nD τ) (gMy d) (.dma s1) hsc) (.dma s2) hsrc hdst hsem) Prog.ret) K := by
  subst hn hs1 hs2
  unfold ow
  iintro ⟨#HΓ, ⟨Ht1, Ht2, Hb, ⟨%f, Hf⟩⟩, ⟨%W, HO⟩, HK⟩
  ihave #Hc1 := (ctx_sm m d k) $$ HΓ
  ihave #Hc2 := (ctx_rm m (rot d k) d) $$ HΓ
  unfold cinv
  icases Hc1 with ⟨⟨%κ₁, Hi1⟩, Hr1⟩
  icases Hc2 with ⟨⟨%κ₂, Hi2⟩, Hr2⟩
  iapply (Rounds.wp_send_pointsTo 𝒱₀ ER (Rd m) (d : Thread nD τ) none (c' := (rot d k : Thread nD τ)) (src := mM) (dst := gMy d)
      (fs := lfill m d) (fd := f) (κ₁ := κ₁) (κ₂ := κ₂)
      (r₁ := 0) (r₂ := 0) (d₁ := d) (d₂ := d) (q := Transfers.shareTok fullShare 7 k)
      (by rw [duties_sm]; exact Finset.mem_singleton_self _) (by rw [duties_rm m _ _ (ne_rot d k)]; exact Finset.mem_singleton_self _)
      () () N2 rfl (amount_sm m d d k) (amount_rm m (rot d k) d d) (OM d l) rfl (W := W)
      (by rw [payload_sm]; exact Entails.of_eq (mM_all d _ _))
      (by rw [payload_rm, gMy_set]; exact Entails.of_eq (pointsTo_congr (landM m d k f)))) $$ [HO Ht1 Ht2 Hb Hf]
  · isplitr; · iexact Hi1
    isplitr; · iexact Hi2
    isplitl [Hb]; · unfold mPt; rw [mM_all]; iexact Hb
    isplitl [Hf]; · rw [gMy_set]; unfold gPt; iexact Hf
    isplitl [HO]; · iexact HO
    isplitl [Ht1]; · iexact Ht1
    isplitr; · iexact Hr1
    isplitl [Ht2]; · iexact Ht2
    iexact Hr2
  iintro ⟨Hc, HO⟩
  rw [wp_ret]; imodintro
  iapply HK
  isplitl [Hc]; · iexact Hc
  iexists W; iexact HO

/-- The `k`-th copy of the maximum is sent. -/
theorem sendM_step (d : Dev nD) (k : Fin 7) (l : List (Fin 7)) (K : PUnit → sProp 𝕄) :
    iprop(Ctx m ∗ (dutyTok ER (smC d k) 0 d ∗ dutyTok ER (rmC (rot d k) d) 0 d ∗ mPt m d k ∗ (∃ f, gPt (rot d k) d f))
        ∗ ow d (OM d (k :: l)) ∗ ((cred (tallyAt (smC d k) () N2) ∗ ow d (OM d l)) -∗ K ⟨⟩))
      ⊢ WP d (sendM d k) K :=
  sendM_at m d _ k (devM_eq k d) _ _ (sem7_eq _) (semMy8_eq d) l K

/-- The `k`-th wait for an arrived block: the slot holding it, and the sender's slot for this device's maximum. -/
theorem recvX_step (d : Dev nD) (k : Fin 7) (l : List (Fin 7)) (K : PUnit → sProp 𝕄) :
    iprop(Ctx m ∗ (cred (tallyAt (rxC d (rot d k)) () N1) ∗ atPos ER (rxC d (rot d k)) 0 ∅ 0) ∗ ow d (OM d all7)
        ∗ ((((aPt d (rot d k) (xa m d) ∗ (∃ f, gPt (rot d k) d f)) ∗ semVal (rxC d (rot d k)) 0) ∗ ow d (OM d all7)) -∗ K ⟨⟩))
      ⊢ WP d (recvX d k) K := by
  unfold recvX
  refine BIBase.Entails.trans ?_ (waitDma_step m d (src := aRot d k) (dst := aRot d k) (semRot6_eq d k) (rot d k) N1 (by rfl) (OM d all7) (duties_rx m d (rot d k) (rot_ne d k)) (amount_rx m d (rot d k) _) (above_OM (by rw [kind_rx]; exact (by decide : 2 < 3)) d all7) K)
  iintro ⟨#HΓ, HC, HO, HK⟩
  ihave #Hb := (ctx_rx m d (rot d k)) $$ HΓ
  isplitr; · iexact HΓ
  isplitr; · iexact Hb
  isplitl [HC]; · iexact HC
  isplitl [HO]; · iexact HO
  rw [payload_rx]
  iintro ⟨H1, H3, H4⟩
  iapply HK
  isplitl [H1 H3]
  · isplitl [H1] <;> iassumption
  · iexact H4

/-- The `k`-th wait for a block that leaves: its rows come back. -/
theorem leftX_step (d : Dev nD) (k : Fin 7) (l : List (Fin 7)) (K : PUnit → sProp 𝕄) :
    iprop(Ctx m ∗ (cred (tallyAt (sxC d k) () N1) ∗ atPos ER (sxC d k) 0 ∅ 0) ∗ ow d (OM d all7)
        ∗ (((bPt m d (rot d k) ∗ semVal (sxC d k) 0) ∗ ow d (OM d all7)) -∗ K ⟨⟩))
      ⊢ WP d (leftX d k) K := by
  unfold leftX
  refine BIBase.Entails.trans ?_ (waitDma_step m d (src := aMy d) (dst := bRot d k) (sem5_eq k.succ) (d) N1 (by rfl) (OM d all7) (duties_sx m d k) (amount_sx m d d k) (above_OM (by rw [kind_sx]; exact (by decide : 0 < 3)) d all7) K)
  iintro ⟨#HΓ, HC, HO, HK⟩
  ihave #Hb := (ctx_sx m d k) $$ HΓ
  isplitr; · iexact HΓ
  isplitr; · iexact Hb
  isplitl [HC]; · iexact HC
  isplitl [HO]; · iexact HO
  rw [payload_sx]
  iintro ⟨H1, H3, H4⟩
  iapply HK
  isplitl [H1 H3]
  · isplitl [H1] <;> iassumption
  · iexact H4

/-- The `k`-th wait for an arrived maximum. -/
theorem recvM_step (d : Dev nD) (k : Fin 7) (l : List (Fin 7)) (K : PUnit → sProp 𝕄) :
    iprop(Ctx m ∗ (cred (tallyAt (rmC d (rot d k)) () N2) ∗ atPos ER (rmC d (rot d k)) 0 ∅ 0) ∗ ow d 0
        ∗ (((gPt d (rot d k) (gC m d) ∗ semVal (rmC d (rot d k)) 0) ∗ ow d 0) -∗ K ⟨⟩))
      ⊢ WP d (recvM d k) K := by
  unfold recvM
  refine BIBase.Entails.trans ?_ (waitDma_step m d (src := mM) (dst := gRot d k) (semRot8_eq d k) (rot d k) N2 (by rfl) 0 (duties_rm m d (rot d k) (rot_ne d k)) (amount_rm m d (rot d k) _) (above_zero _) K)
  iintro ⟨#HΓ, HC, HO, HK⟩
  ihave #Hb := (ctx_rm m d (rot d k)) $$ HΓ
  isplitr; · iexact HΓ
  isplitr; · iexact Hb
  isplitl [HC]; · iexact HC
  isplitl [HO]; · iexact HO
  rw [payload_rm]
  iintro ⟨H1, H3, H4⟩
  iapply HK
  isplitl [H1 H3]
  · isplitl [H1] <;> iassumption
  · iexact H4

/-- The `k`-th wait for a copy of the maximum that leaves. -/
theorem leftM_step (d : Dev nD) (k : Fin 7) (l : List (Fin 7)) (K : PUnit → sProp 𝕄) :
    iprop(Ctx m ∗ (cred (tallyAt (smC d k) () N2) ∗ atPos ER (smC d k) 0 ∅ 0) ∗ ow d 0
        ∗ (((mPt m d k ∗ semVal (smC d k) 0) ∗ ow d 0) -∗ K ⟨⟩))
      ⊢ WP d (leftM d k) K := by
  unfold leftM
  refine BIBase.Entails.trans ?_ (waitDma_step m d (src := gMy d) (dst := mM) (sem7_eq k.succ) (d) N2 (by rfl) 0 (duties_sm m d k) (amount_sm m d d k) (above_zero _) K)
  iintro ⟨#HΓ, HC, HO, HK⟩
  ihave #Hb := (ctx_sm m d k) $$ HΓ
  isplitr; · iexact HΓ
  isplitr; · iexact Hb
  isplitl [HC]; · iexact HC
  isplitl [HO]; · iexact HO
  rw [payload_sm]
  iintro ⟨H1, H3, H4⟩
  iapply HK
  isplitl [H1 H3]
  · isplitl [H1] <;> iassumption
  · iexact H4

end Cert.A2A

end
-- ==== Proof.Work.lean ====
/-
# The work of one device, step by step

The weight copies, the products, the local maximum and the quantisation, each from what it needs to what it leaves.
-/
module

public import proofs.«01_k».proof.Proof.Moves

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The weight copies -/

/-- The share of the weights a slot's copies read under. -/
abbrev wq (s : Fin 2) : PosShare TreeShare := Transfers.shareTok fullShare 2 s
/-- Slot `s`'s share of the weights. -/
def wSh (d : Dev nD) (s : Fin 2) : sProp 𝕄 := ((d : Thread nD τ).loc main_arg1) ↦{wq s} wA m d
/-- A weight semaphore at zero. -/
abbrev wSem (d : Dev nD) (s : Fin 2) : sProp 𝕄 := semVal ((d : Thread nD τ), .dma (semW s)) 0
/-- A slot with no copy on its way. -/
def WReady (d : Dev nD) (s : Fin 2) : sProp 𝕄 := iprop(wSh m d s ∗ (∃ f, wPt d s f) ∗ wSem d s)
/-- A slot holding the chunk of rotation `k`, column quarter `h`. -/
def WFull (d : Dev nD) (k : Fin 8) (h : Fin 4) : sProp 𝕄 :=
  iprop(∃ f, ⌜wbM.view.readAt (Elt F) (wRect (slot h)).toLoadRect f = wv m d k h⌝ ∗ wPt d (slot h) f)
/-- What a weight copy leaves when it is through. -/
def WLand (d : Dev nD) (k : Fin 8) (h : Fin 4) : sProp 𝕄 :=
  iprop(WFull m d k h ∗ ((d : Thread nD τ).loc main_arg1) ↦[(wSrc d k h).view.set]{wq (slot h)} wA m d)
/-- A slot with that chunk on its way. -/
def WFly (d : Dev nD) (k : Fin 8) (h : Fin 4) : sProp 𝕄 :=
  iprop(Transfers.Flight (countersEmb (U := UU)) (d : Thread nD τ) (.dma (semW (slot h))) () (wDst 0).view.dmaCredit (WLand m d k h)
    ∗ ((d : Thread nD τ).loc main_arg1) ↦[Finset.univ \ (wSrc d k h).view.set]{wq (slot h)} wA m d)

theorem w_out (d : Dev nD) (k : Fin 8) (h : Fin 4) : wSh m d (slot h) ⊢ iprop((((d : Thread nD τ).loc main_arg1) ↦[(wSrc d k h).view.set]{wq (slot h)} wA m d)
    ∗ ((d : Thread nD τ).loc main_arg1) ↦[Finset.univ \ (wSrc d k h).view.set]{wq (slot h)} wA m d) :=
  (pointsTo_split_subset (Finset.subset_univ _)).1
theorem w_back (d : Dev nD) (k : Fin 8) (h : Fin 4) : iprop((((d : Thread nD τ).loc main_arg1) ↦[(wSrc d k h).view.set]{wq (slot h)} wA m d)
    ∗ ((d : Thread nD τ).loc main_arg1) ↦[Finset.univ \ (wSrc d k h).view.set]{wq (slot h)} wA m d) ⊢ wSh m d (slot h) :=
  (pointsTo_split_subset (Finset.subset_univ _)).2

theorem w_land (d : Dev nD) (k : Fin 8) (h : Fin 4) (f : (cc0_scratch2 : Ref sig .tc).ty.Contents (Elt F)) :
    iprop((((d : Thread nD τ).loc cc0_scratch2) ↦[(wRect (slot h)).set]{fullShare} (wDst (slot h)).view.write (Elt F) f ((wSrc d k h).view.read (Elt F) (wA m d)) Finset.univ)
      ∗ ((d : Thread nD τ).loc main_arg1) ↦[(wSrc d k h).view.set]{wq (slot h)} wA m d) ⊢ WLand m d k h := by
  unfold WLand WFull wPt
  iintro ⟨H, Hw⟩
  isplitl [H]
  · iexists (wDst (slot h)).view.write (Elt F) f ((wSrc d k h).view.read (Elt F) (wA m d)) Finset.univ
    isplitr; · ipureintro; exact landW m d k h f
    iexact H
  · iexact Hw

/-- A weight copy starts. -/
theorem startW_step (d : Dev nD) (k : Fin 8) (h : Fin 4) (K : PUnit → sProp 𝕄) :
    iprop(WReady m d (slot h) ∗ (WFly m d k h -∗ K ⟨⟩)) ⊢ WP d (startW d k h) K := by
  unfold startW WReady
  iintro ⟨⟨Hw, ⟨%f, Hf⟩, Hs⟩, HK⟩
  ihave Hw2 := (w_out m d k h) $$ Hw
  icases Hw2 with ⟨Hw1, Hw2⟩
  iapply (Transfers.wp_dmaLocal (countersEmb (U := UU)) 𝒱₀ (d : Thread nD τ) none (src := wSrc d k h) (dst := wDst (slot h)) (via := .same)
    (sm := .dma (semW (slot h))) (q := wq (slot h)) (fs := wA m d) (Sd := (wRect (slot h)).set) (fd := f) () (wDst 0).view.dmaCredit (by rfl) (View.dmaCredit_pos _ (by decide))
    (wDst_set (slot h)).subset) $$ [Hw1 Hf Hs]
  · isplitl [Hw1]; · iexact Hw1
    isplitl [Hf]; · unfold wPt; iexact Hf
    iexact Hs
  iintro HF
  rw [wp_ret]; imodintro
  iapply HK
  unfold WFly
  isplitl [HF]
  · iapply (Transfers.Flight_mono (countersEmb (U := UU)) (d : Thread nD τ) (w_land m d k h f))
    iexact HF
  · iexact Hw2

theorem semW_kind (s : Fin 2) : kind (.dma (semW s)) = .none := by rw [semW_eq]; revert s; decide

/-- A weight copy is waited for. -/
theorem waitW_step (d : Dev nD) (k : Fin 8) (h : Fin 4) (K : PUnit → sProp 𝕄) :
    iprop(Ctx m ∗ WFly m d k h ∗ ow d (OM d all7) ∗ ((WFull m d k h ∗ wSh m d (slot h) ∗ wSem d (slot h) ∗ ow d (OM d all7)) -∗ K ⟨⟩)) ⊢ WP d (waitW d k h) K := by
  unfold waitW WFly ow
  iintro ⟨#HΓ, ⟨HF, Hw2⟩, ⟨%W, HO⟩, HK⟩
  ihave #HL := (ctx_lev m) $$ HΓ
  iapply (Transfers.wp_waitLocalO (countersEmb (U := UU)) 𝒱₀ (d : Thread nD τ) none () (N := (wDst 0).view.dmaCredit) (by rfl)) $$ [HF HO]
  · isplitl [HF]; · iexact HF
    isplitl [HO]; · iexact HO
    iapply (mayWait_of d (.dma (semW (slot h))) (OM d all7) (above_OM (by rw [semW_kind]; exact (by decide : 0 < 3)) d all7))
    iexact HL
  iintro ⟨HD, Hs, HO⟩
  rw [wp_ret]; imodintro
  unfold WLand
  icases HD with ⟨Hf, Hw1⟩
  iapply HK
  isplitl [Hf]; · iexact Hf
  isplitl [Hw1 Hw2]
  · iapply (w_back m d k h)
    isplitl [Hw1] <;> iassumption
  isplitl [Hs]; · iexact Hs
  iexists _; iexact HO

/-! ## The products -/

theorem sub_acc (b : Ref sig .tc) (r : Rect b.ty.shape) : ((Memref.whole b).access r).set ⊆ r.set := (View.set_slice_whole _ _).subset

/-- What every product step holds besides its operand: the result's column quarter after `n` rotations. -/
abbrev colAt (d : Dev nD) (h : Fin 4) (n : ℕ) : sProp 𝕄 := colPt d h (colC m d n)

theorem acc_zero (d : Dev nD) (h : Fin 4) : k0_pay5 (xrow m d d) (wv m d 0 h) = acc m d h 0 := by rw [acc]
theorem col_written (d : Dev nD) (h : Fin 4) (n : ℕ) (f : (cc0_stg1_0 : Ref sig .tc).ty.Contents (Elt F)) (w : Vec F S512x2048 .f32) (hw : w = acc m d h n) :
    ((((d : Thread nD τ).loc cc0_stg1_0) ↦[(colRect h).set]{fullShare} (oM.access (colRect h)).write (Elt F) f w Finset.univ : sProp 𝕄))
      ⊢ (((d : Thread nD τ).loc cc0_stg1_0) ↦[(colRect h).set]{fullShare} colC m d n) :=
  Entails.of_eq (pointsTo_congr (writeCol m d h n f w hw))

/-- The first product of a column quarter. -/
theorem chunk0_step (d : Dev nD) (h : Fin 4) (K : PUnit → sProp 𝕄) :
    iprop(Ctx m ∗ bPt m d d ∗ WFly m d 0 h ∗ (∃ f, colPt d h f) ∗ ow d (OM d all7)
        ∗ ((bPt m d d ∗ WReady m d (slot h) ∗ colAt m d h 0 ∗ ow d (OM d all7)) -∗ K ⟨⟩))
      ⊢ WP d (chunk0 d h) K := by
  unfold chunk0 WP
  rw [wp_bind]
  unfold bPt
  iintro ⟨#HΓ, Hb, HF, ⟨%f, Hc⟩, HO, HK⟩
  iapply (wp_load_rect 𝒱₀ (d : Thread nD τ) none Set.univ (m := bM) (r := ownRect d) (S := (bRect d).set) ((sub_acc cc0_scratch0 (ownRect d)).trans (own_set d).subset)) $$ Hb
  iintro Hb
  rw [wp_ret]; imodintro
  rw [show (bM.access (ownRect d)).read (Elt F) (xb m d) = _ from readOwn m d, wp_bind]
  iapply (waitW_step m d 0 h)
  isplitr; · iexact HΓ
  isplitl [HF]; · iexact HF
  isplitl [HO]; · iexact HO
  unfold WFull wPt
  iintro ⟨⟨%g, %hg, Hg⟩, Hw, Hs, HO⟩
  rw [wp_bind]
  iapply (wp_load_rect 𝒱₀ (d : Thread nD τ) none Set.univ (m := wbM) (r := wRect (slot h)) (S := (wRect (slot h)).set) (sub_acc cc0_scratch2 _)) $$ Hg
  iintro Hg
  rw [wp_ret]; imodintro
  rw [show (wbM.access (wRect (slot h))).read (Elt F) g = _ from hg, wp_bind]
  unfold colPt
  iapply (wp_load_rect 𝒱₀ (d : Thread nD τ) none Set.univ (m := oM) (r := colRect h) (S := (colRect h).set) (sub_acc cc0_stg1_0 _)) $$ Hc
  iintro Hc
  rw [wp_ret]; imodintro
  iapply (wp_store 𝒱₀ (d : Thread nD τ) none Set.univ (m := oM) (r := colRect h) (Mk := Finset.univ) (S := (colRect h).set) (sub_acc cc0_stg1_0 _)) $$ Hc
  iintro Hc
  rw [wp_ret]; imodintro
  iapply HK
  isplitl [Hb]; · iexact Hb
  isplitl [Hg Hw Hs]
  · unfold WReady
    isplitl [Hw]; · iexact Hw
    isplitl [Hg]; · iexists g; unfold wPt; iexact Hg
    iexact Hs
  isplitl [Hc]
  · unfold colAt colPt
    iapply (col_written m d h 0 f _ (acc_zero m d h))
    iexact Hc
  iexact HO

/-- A later product of a column quarter. -/
theorem chunkS_step (d : Dev nD) (k : Fin 7) (h : Fin 4) (K : PUnit → sProp 𝕄) :
    iprop(Ctx m ∗ aPt d (rot d k) (xa m d) ∗ WFly m d k.succ h ∗ colAt m d h k.val ∗ ow d (OM d all7)
        ∗ ((aPt d (rot d k) (xa m d) ∗ WReady m d (slot h) ∗ colAt m d h (k.val + 1) ∗ ow d (OM d all7)) -∗ K ⟨⟩))
      ⊢ WP d (chunkS d k h) K := by
  unfold chunkS WP
  rw [wp_bind]
  unfold aPt
  iintro ⟨#HΓ, Hb, HF, Hc, HO, HK⟩
  iapply (wp_load_rect 𝒱₀ (d : Thread nD τ) none Set.univ (m := aM) (r := rotRect d k) (S := (aRect (rot d k)).set) ((sub_acc cc0_scratch1 (rotRect d k)).trans (rot_set d k).subset)) $$ Hb
  iintro Hb
  rw [wp_ret]; imodintro
  rw [show (aM.access (rotRect d k)).read (Elt F) (xa m d) = _ from readRot m d k, wp_bind]
  iapply (waitW_step m d k.succ h)
  isplitr; · iexact HΓ
  isplitl [HF]; · iexact HF
  isplitl [HO]; · iexact HO
  unfold WFull wPt
  iintro ⟨⟨%g, %hg, Hg⟩, Hw, Hs, HO⟩
  rw [wp_bind]
  iapply (wp_load_rect 𝒱₀ (d : Thread nD τ) none Set.univ (m := wbM) (r := wRect (slot h)) (S := (wRect (slot h)).set) (sub_acc cc0_scratch2 _)) $$ Hg
  iintro Hg
  rw [wp_ret]; imodintro
  rw [show (wbM.access (wRect (slot h))).read (Elt F) g = _ from hg, wp_bind]
  unfold colAt colPt
  iapply (wp_load_rect 𝒱₀ (d : Thread nD τ) none Set.univ (m := oM) (r := colRect h) (S := (colRect h).set) (sub_acc cc0_stg1_0 _)) $$ Hc
  iintro Hc
  rw [wp_ret]; imodintro
  rw [show (oM.access (colRect h)).read (Elt F) (colC m d k.val) = _ from readCol m d h k.val, wp_bind]
  iapply (wp_load_rect 𝒱₀ (d : Thread nD τ) none Set.univ (m := oM) (r := colRect h) (S := (colRect h).set) (sub_acc cc0_stg1_0 _)) $$ Hc
  iintro Hc
  rw [wp_ret]; imodintro
  iapply (wp_store 𝒱₀ (d : Thread nD τ) none Set.univ (m := oM) (r := colRect h) (Mk := Finset.univ) (S := (colRect h).set) (sub_acc cc0_stg1_0 _)) $$ Hc
  iintro Hc
  rw [wp_ret]; imodintro
  iapply HK
  isplitl [Hb]; · iexact Hb
  isplitl [Hg Hw Hs]
  · unfold WReady
    isplitl [Hw]; · iexact Hw
    isplitl [Hg]; · iexists g; unfold wPt; iexact Hg
    iexact Hs
  isplitl [Hc]
  · iapply (col_written m d h (k.val + 1) _ _ (acc_succ m d h k).symm)
    iexact Hc
  iexact HO

/-! ## The rotations -/

/-- Before rotation `k + 1`: its first two chunks on their way, every column quarter after `k` rotations beyond the first. -/
def RS (d : Dev nD) (k : Fin 7) : sProp 𝕄 :=
  iprop(WFly m d k.succ 0 ∗ WFly m d k.succ 1 ∗ (colAt m d 0 k.val ∗ colAt m d 1 k.val ∗ colAt m d 2 k.val ∗ colAt m d 3 k.val) ∗ ow d (OM d all7))

/-- Rotation 0. -/
theorem rot0_step (d : Dev nD) (K : PUnit → sProp 𝕄) :
    iprop(Ctx m ∗ bPt m d d ∗ (WFly m d 0 0 ∗ WFly m d 0 1) ∗ ((∃ f, colPt d 0 f) ∗ (∃ f, colPt d 1 f) ∗ (∃ f, colPt d 2 f) ∗ (∃ f, colPt d 3 f)) ∗ ow d (OM d all7)
        ∗ ((bPt m d d ∗ RS m d 0) -∗ K ⟨⟩))
      ⊢ WP d (rot0 d) K := by
  unfold rot0 WP
  rw [wp_bind]
  iintro ⟨#HΓ, Hb, ⟨HF0, HF1⟩, ⟨Hc0, Hc1, Hc2, Hc3⟩, HO, HK⟩
  iapply (chunk0_step m d 0)
  isplitr; · iexact HΓ
  isplitl [Hb]; · iexact Hb
  isplitl [HF0]; · iexact HF0
  isplitl [Hc0]; · iexact Hc0
  isplitl [HO]; · iexact HO
  iintro ⟨Hb, HR, Hc0, HO⟩
  rw [wp_bind]
  iapply (startW_step m d 0 2)
  isplitl [HR]; · iexact HR
  iintro HF0
  rw [wp_bind]
  iapply (chunk0_step m d 1)
  isplitr; · iexact HΓ
  isplitl [Hb]; · iexact Hb
  isplitl [HF1]; · iexact HF1
  isplitl [Hc1]; · iexact Hc1
  isplitl [HO]; · iexact HO
  iintro ⟨Hb, HR, Hc1, HO⟩
  rw [wp_bind]
  iapply (startW_step m d 0 3)
  isplitl [HR]; · iexact HR
  iintro HF1
  rw [wp_bind]
  iapply (chunk0_step m d 2)
  isplitr; · iexact HΓ
  isplitl [Hb]; · iexact Hb
  isplitl [HF0]; · iexact HF0
  isplitl [Hc2]; · iexact Hc2
  isplitl [HO]; · iexact HO
  iintro ⟨Hb, HR, Hc2, HO⟩
  rw [wp_bind]
  iapply (startW_step m d 1 0)
  isplitl [HR]; · iexact HR
  iintro HF0
  rw [wp_bind]
  iapply (chunk0_step m d 3)
  isplitr; · iexact HΓ
  isplitl [Hb]; · iexact Hb
  isplitl [HF1]; · iexact HF1
  isplitl [Hc3]; · iexact Hc3
  isplitl [HO]; · iexact HO
  iintro ⟨Hb, HR, Hc3, HO⟩
  iapply (startW_step m d 1 1)
  isplitl [HR]; · iexact HR
  iintro HF1
  iapply HK
  isplitl [Hb]; · iexact Hb
  unfold RS
  isplitl [HF0]; · iexact HF0
  isplitl [HF1]; · iexact HF1
  isplitl [Hc0 Hc1 Hc2 Hc3]
  · isplitl [Hc0]; · iexact Hc0
    isplitl [Hc1]; · iexact Hc1
    isplitl [Hc2]; · iexact Hc2
    iexact Hc3
  iexact HO

/-- A rotation from 1 to 6. -/
theorem rotS_step (d : Dev nD) (k : Fin 6) (K : PUnit → sProp 𝕄) :
    iprop(Ctx m ∗ aPt d (rot d k.castSucc) (xa m d) ∗ RS m d k.castSucc
        ∗ ((aPt d (rot d k.castSucc) (xa m d) ∗ RS m d k.succ) -∗ K ⟨⟩))
      ⊢ WP d (rotS d k) K := by
  unfold rotS WP RS
  rw [wp_bind]
  iintro ⟨#HΓ, Hb, ⟨HF0, HF1, ⟨Hc0, Hc1, Hc2, Hc3⟩, HO⟩, HK⟩
  iapply (chunkS_step m d k.castSucc 0)
  isplitr; · iexact HΓ
  isplitl [Hb]; · iexact Hb
  isplitl [HF0]; · iexact HF0
  isplitl [Hc0]; · iexact Hc0
  isplitl [HO]; · iexact HO
  iintro ⟨Hb, HR, Hc0, HO⟩
  rw [wp_bind]
  iapply (startW_step m d k.castSucc.succ 2)
  isplitl [HR]; · iexact HR
  iintro HF0
  rw [wp_bind]
  iapply (chunkS_step m d k.castSucc 1)
  isplitr; · iexact HΓ
  isplitl [Hb]; · iexact Hb
  isplitl [HF1]; · iexact HF1
  isplitl [Hc1]; · iexact Hc1
  isplitl [HO]; · iexact HO
  iintro ⟨Hb, HR, Hc1, HO⟩
  rw [wp_bind]
  iapply (startW_step m d k.castSucc.succ 3)
  isplitl [HR]; · iexact HR
  iintro HF1
  rw [wp_bind]
  iapply (chunkS_step m d k.castSucc 2)
  isplitr; · iexact HΓ
  isplitl [Hb]; · iexact Hb
  isplitl [HF0]; · iexact HF0
  isplitl [Hc2]; · iexact Hc2
  isplitl [HO]; · iexact HO
  iintro ⟨Hb, HR, Hc2, HO⟩
  rw [wp_bind]
  iapply (startW_step m d k.succ.succ 0)
  isplitl [HR]; · iexact HR
  iintro HF0
  rw [wp_bind]
  iapply (chunkS_step m d k.castSucc 3)
  isplitr; · iexact HΓ
  isplitl [Hb]; · iexact Hb
  isplitl [HF1]; · iexact HF1
  isplitl [Hc3]; · iexact Hc3
  isplitl [HO]; · iexact HO
  iintro ⟨Hb, HR, Hc3, HO⟩
  iapply (startW_step m d k.succ.succ 1)
  isplitl [HR]; · iexact HR
  iintro HF1
  iapply HK
  isplitl [Hb]; · iexact Hb
  isplitl [HF0]; · iexact HF0
  isplitl [HF1]; · iexact HF1
  isplitl [Hc0 Hc1 Hc2 Hc3]
  · isplitl [Hc0]; · iexact Hc0
    isplitl [Hc1]; · iexact Hc1
    isplitl [Hc2]; · iexact Hc2
    iexact Hc3
  iexact HO

/-- Rotation 7: both slots are left ready, every column quarter is finished. -/
theorem rot7_step (d : Dev nD) (K : PUnit → sProp 𝕄) :
    iprop(Ctx m ∗ aPt d (rot d 6) (xa m d) ∗ RS m d 6
        ∗ ((aPt d (rot d 6) (xa m d) ∗ (WReady m d 0 ∗ WReady m d 1) ∗ (colAt m d 0 7 ∗ colAt m d 1 7 ∗ colAt m d 2 7 ∗ colAt m d 3 7) ∗ ow d (OM d all7)) -∗ K ⟨⟩))
      ⊢ WP d (rot7 d) K := by
  unfold rot7 WP RS
  rw [wp_bind]
  iintro ⟨#HΓ, Hb, ⟨HF0, HF1, ⟨Hc0, Hc1, Hc2, Hc3⟩, HO⟩, HK⟩
  iapply (chunkS_step m d 6 0)
  isplitr; · iexact HΓ
  isplitl [Hb]; · iexact Hb
  isplitl [HF0]; · iexact HF0
  isplitl [Hc0]; · iexact Hc0
  isplitl [HO]; · iexact HO
  iintro ⟨Hb, HR, Hc0, HO⟩
  rw [wp_bind]
  iapply (startW_step m d 7 2)
  isplitl [HR]; · iexact HR
  iintro HF0
  rw [wp_bind]
  iapply (chunkS_step m d 6 1)
  isplitr; · iexact HΓ
  isplitl [Hb]; · iexact Hb
  isplitl [HF1]; · iexact HF1
  isplitl [Hc1]; · iexact Hc1
  isplitl [HO]; · iexact HO
  iintro ⟨Hb, HR, Hc1, HO⟩
  rw [wp_bind]
  iapply (startW_step m d 7 3)
  isplitl [HR]; · iexact HR
  iintro HF1
  rw [wp_bind]
  iapply (chunkS_step m d 6 2)
  isplitr; · iexact HΓ
  isplitl [Hb]; · iexact Hb
  isplitl [HF0]; · iexact HF0
  isplitl [Hc2]; · iexact Hc2
  isplitl [HO]; · iexact HO
  iintro ⟨Hb, HR0, Hc2, HO⟩
  iapply (chunkS_step m d 6 3)
  isplitr; · iexact HΓ
  isplitl [Hb]; · iexact Hb
  isplitl [HF1]; · iexact HF1
  isplitl [Hc3]; · iexact Hc3
  isplitl [HO]; · iexact HO
  iintro ⟨Hb, HR1, Hc3, HO⟩
  iapply HK
  isplitl [Hb]; · iexact Hb
  isplitl [HR0 HR1]
  · isplitl [HR0]; · iexact HR0
    iexact HR1
  isplitl [Hc0 Hc1 Hc2 Hc3]
  · isplitl [Hc0]; · iexact Hc0
    isplitl [Hc1]; · iexact Hc1
    isplitl [Hc2]; · iexact Hc2
    iexact Hc3
  iexact HO

theorem drop_cons (a : Fin 6) (l : List (Fin 6)) (n : Fin 7) (h : a :: l = List.drop n.val [0, 1, 2, 3, 4, 5]) :
    n = a.castSucc ∧ l = List.drop a.succ.val [0, 1, 2, 3, 4, 5] := by
  revert h
  fin_cases n <;> intro h <;> simp at h <;> obtain ⟨rfl, rfl⟩ := h <;> exact ⟨rfl, rfl⟩
theorem drop_nil (n : Fin 7) (h : ([] : List (Fin 6)) = List.drop n.val [0, 1, 2, 3, 4, 5]) : n = 6 := by revert n; decide

/-- Before the rotations left in the list. -/
def RL (d : Dev nD) (l : List (Fin 6)) : sProp 𝕄 := iprop(∃ n : Fin 7, ⌜l = List.drop n.val [0, 1, 2, 3, 4, 5]⌝ ∗ RS m d n)
theorem rotL_step (d : Dev nD) (k : Fin 6) (l : List (Fin 6)) (K : PUnit → sProp 𝕄) :
    iprop(Ctx m ∗ aPt d (rot d k.castSucc) (xa m d) ∗ RL m d (k :: l)
        ∗ ((aPt d (rot d k.castSucc) (xa m d) ∗ RL m d l) -∗ K ⟨⟩))
      ⊢ WP d (rotS d k) K := by
  unfold RL
  iintro ⟨#HΓ, Hb, ⟨%n, %hn, HR⟩, HK⟩
  obtain ⟨rfl, rfl⟩ := drop_cons k l n hn
  iapply (rotS_step m d k)
  isplitr; · iexact HΓ
  isplitl [Hb]; · iexact Hb
  isplitl [HR]; · iexact HR
  iintro ⟨Hb, HR⟩
  iapply HK
  isplitl [Hb]; · iexact Hb
  iexists k.succ
  isplitr; · ipureintro; rfl
  iexact HR

/-! ## Before the sends, and after the products -/

abbrev gBuf (d : Dev nD) (f : (cc0_scratch4 : Ref sig .tc).ty.Contents (Elt F)) : sProp 𝕄 := ((d : Thread nD τ).loc cc0_scratch4) ↦{fullShare} f
abbrev xBuf (d : Dev nD) : sProp 𝕄 := ((d : Thread nD τ).loc cc0_stg0_0) ↦{fullShare} xstg m d
abbrev bBuf (d : Dev nD) (f : (cc0_scratch0 : Ref sig .tc).ty.Contents (Elt F)) : sProp 𝕄 := ((d : Thread nD τ).loc cc0_scratch0) ↦{fullShare} f
abbrev oBuf (d : Dev nD) (f : (cc0_stg1_0 : Ref sig .tc).ty.Contents (Elt F)) : sProp 𝕄 := ((d : Thread nD τ).loc cc0_stg1_0) ↦{fullShare} f
abbrev mBuf (d : Dev nD) (f : (cc0_scratch3 : Ref sig .tc).ty.Contents (Elt F)) : sProp 𝕄 := ((d : Thread nD τ).loc cc0_scratch3) ↦{fullShare} f

/-- The gathered maxima are zeroed; the operand is rounded into its buffer. -/
theorem prep_step (d : Dev nD) (K : PUnit → sProp 𝕄) :
    iprop((∃ f, gBuf d f) ∗ xBuf m d ∗ (∃ f, bBuf d f) ∗ ((gBuf d (k0_pay3 (F := F)) ∗ xBuf m d ∗ bBuf d (xb m d)) -∗ K ⟨⟩)) ⊢ WP d prep K := by
  unfold prep WP
  rw [wp_bind]
  iintro ⟨⟨%g, Hg⟩, Hx, ⟨%b, Hb⟩, HK⟩
  iapply (wp_load_rect 𝒱₀ (d : Thread nD τ) none Set.univ (m := gM) (r := gRect) (S := Finset.univ) (Finset.subset_univ _)) $$ Hg
  iintro Hg
  rw [wp_ret]; imodintro
  rw [wp_bind]
  iapply (wp_store 𝒱₀ (d : Thread nD τ) none Set.univ (m := gM) (r := gRect) (Mk := Finset.univ) (S := Finset.univ) (Finset.subset_univ _)) $$ Hg
  iintro Hg
  rw [wp_ret]; imodintro
  rw [writeG, wp_bind]
  iapply (wp_load_rect 𝒱₀ (d : Thread nD τ) none Set.univ (m := xM) (r := xRect) (S := Finset.univ) (Finset.subset_univ _)) $$ Hx
  iintro Hx
  rw [wp_ret]; imodintro
  rw [show (xM.access xRect).read (Elt F) (xstg m d) = _ from readX (xstg m d), wp_bind]
  iapply (wp_load_rect 𝒱₀ (d : Thread nD τ) none Set.univ (m := bM) (r := xRect) (S := Finset.univ) (Finset.subset_univ _)) $$ Hb
  iintro Hb
  rw [wp_ret]; imodintro
  iapply (wp_store 𝒱₀ (d : Thread nD τ) none Set.univ (m := bM) (r := xRect) (Mk := Finset.univ) (S := Finset.univ) (Finset.subset_univ _)) $$ Hb
  iintro Hb
  rw [wp_ret]; imodintro
  rw [writeB]
  iapply HK
  isplitl [Hg]; · iexact Hg
  isplitl [Hx]; · iexact Hx
  iexact Hb

/-- One column eighth of the finished product is read. -/
theorem readBlk_step (d : Dev nD) (i : Fin 8) (K : Vec F S512x1024 .f32 → sProp 𝕄) :
    iprop(oBuf d (colC m d 7) ∗ (oBuf d (colC m d 7) -∗ K (yBlk m d i))) ⊢ WP d (readBlk i) K := by
  unfold readBlk WP
  iintro ⟨Ho, HK⟩
  iapply (wp_load_rect 𝒱₀ (d : Thread nD τ) none Set.univ (m := oM) (r := blkRect i) (S := Finset.univ) (Finset.subset_univ _)) $$ Ho
  iintro Ho
  rw [wp_ret]; imodintro
  rw [show (oM.access (blkRect i)).read (Elt F) (colC m d 7) = _ from readBlk_eq m d i]
  iapply HK
  iexact Ho

theorem blks (d : Dev nD) : (![yBlk m d 0, yBlk m d 1, yBlk m d 2, yBlk m d 3, yBlk m d 4, yBlk m d 5, yBlk m d 6, yBlk m d 7] : Fin 8 → Vec F S512x1024 .f32) = yBlk m d :=
  funext fun i => by fin_cases i <;> rfl

/-- The local maximum is computed and its copies are written. -/
theorem localMax_step (d : Dev nD) (K : F .f32 → sProp 𝕄) :
    iprop(oBuf d (colC m d 7) ∗ (∃ f, mBuf d f) ∗ ((oBuf d (colC m d 7) ∗ mBuf d (lfill m d)) -∗ K (lmax m d))) ⊢ WP d localMax K := by
  unfold localMax WP
  iintro ⟨Ho, ⟨%f, Hm⟩, HK⟩
  rw [wp_bind]; iapply (readBlk_step m d 0); isplitl [Ho]; · iexact Ho
  iintro Ho
  rw [wp_bind]; iapply (readBlk_step m d 1); isplitl [Ho]; · iexact Ho
  iintro Ho
  rw [wp_bind]; iapply (readBlk_step m d 2); isplitl [Ho]; · iexact Ho
  iintro Ho
  rw [wp_bind]; iapply (readBlk_step m d 3); isplitl [Ho]; · iexact Ho
  iintro Ho
  rw [wp_bind]; iapply (readBlk_step m d 4); isplitl [Ho]; · iexact Ho
  iintro Ho
  rw [wp_bind]; iapply (readBlk_step m d 5); isplitl [Ho]; · iexact Ho
  iintro Ho
  rw [wp_bind]; iapply (readBlk_step m d 6); isplitl [Ho]; · iexact Ho
  iintro Ho
  rw [wp_bind]; iapply (readBlk_step m d 7); isplitl [Ho]; · iexact Ho
  iintro Ho
  rw [blks, wp_bind]
  iapply (wp_load_rect 𝒱₀ (d : Thread nD τ) none Set.univ (m := mM) (r := mRect) (S := Finset.univ) (Finset.subset_univ _)) $$ Hm
  iintro Hm
  rw [wp_ret]; imodintro
  rw [wp_bind]
  iapply (wp_store 𝒱₀ (d : Thread nD τ) none Set.univ (m := mM) (r := mRect) (Mk := Finset.univ) (S := Finset.univ) (Finset.subset_univ _)) $$ Hm
  iintro Hm
  rw [wp_ret]; imodintro
  rw [writeM]
  iapply (ret_rule d (lmax m d) K)
  iapply HK
  isplitl [Ho]; · iexact Ho
  iexact Hm

theorem blk_written (d : Dev nD) (i : Fin 8) (f : (cc0_stg1_0 : Ref sig .tc).ty.Contents (Elt F)) :
    ((((d : Thread nD τ).loc cc0_stg1_0) ↦[(blkRect i).set]{fullShare} (oM.access (blkRect i)).write (Elt F) f (k0_pay55 (gmax m d) (yBlk m d i)) Finset.univ : sProp 𝕄))
      ⊢ (((d : Thread nD τ).loc cc0_stg1_0) ↦[(blkRect i).set]{fullShare} outC m d) :=
  Entails.of_eq (pointsTo_congr (writeBlk m d i f))

/-- One column eighth is quantised. -/
theorem quant_step (d : Dev nD) (i : Fin 8) (l : List (Fin 8)) (K : PUnit → sProp 𝕄) :
    iprop(Ctx m ∗ blkPt d i (colC m d 7) ∗ emp ∗ ((blkPt d i (outC m d) ∗ emp) -∗ K ⟨⟩)) ⊢ WP d (quant (gmax m d) i) K := by
  unfold quant readBlk WP blkPt
  rw [wp_bind]
  iintro ⟨-, Ho, -, HK⟩
  iapply (wp_load_rect 𝒱₀ (d : Thread nD τ) none Set.univ (m := oM) (r := blkRect i) (S := (blkRect i).set) (sub_acc cc0_stg1_0 _)) $$ Ho
  iintro Ho
  rw [wp_ret]; imodintro
  rw [show (oM.access (blkRect i)).read (Elt F) (colC m d 7) = _ from readBlk_eq m d i, wp_bind]
  iapply (wp_load_rect 𝒱₀ (d : Thread nD τ) none Set.univ (m := oM) (r := blkRect i) (S := (blkRect i).set) (sub_acc cc0_stg1_0 _)) $$ Ho
  iintro Ho
  rw [wp_ret]; imodintro
  iapply (wp_store 𝒱₀ (d : Thread nD τ) none Set.univ (m := oM) (r := blkRect i) (Mk := Finset.univ) (S := (blkRect i).set) (sub_acc cc0_stg1_0 _)) $$ Ho
  iintro Ho
  rw [wp_ret]; imodintro
  iapply HK
  isplitl [Ho]; · iapply (blk_written m d i _); iexact Ho
  iempintro

end Cert.A2A

end
-- ==== Proof.Loops.lean ====
/-
# The body of one device, from start to end

The loops, the way a device's semaphores and buffers fall into pieces, and the whole body run on what the launch deals it.
-/
module

public import proofs.«01_k».proof.Proof.Work

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists of resources -/

theorem sepL {I : Type} [DecidableEq I] (l : List I) (A B : I → sProp 𝕄) : iprop(bigSepL l A ∗ bigSepL l B) ⊢ bigSepL l fun i => iprop(A i ∗ B i) := by
  induction l with
  | nil => rw [bigSepL_nil, bigSepL_nil, bigSepL_nil]; iintro ⟨H, -⟩; iexact H
  | cons a l ih =>
    rw [bigSepL_cons', bigSepL_cons', bigSepL_cons']
    iintro ⟨⟨H1, H2⟩, H3, H4⟩
    isplitl [H1 H3]
    · isplitl [H1] <;> iassumption
    · iapply ih
      isplitl [H2] <;> iassumption
theorem unsepL {I : Type} [DecidableEq I] (l : List I) (A B : I → sProp 𝕄) : (bigSepL l fun i => iprop(A i ∗ B i)) ⊢ iprop(bigSepL l A ∗ bigSepL l B) := by
  induction l with
  | nil => rw [bigSepL_nil, bigSepL_nil, bigSepL_nil]; iintro H; isplitl [H]; · iexact H
           iempintro
  | cons a l ih =>
    rw [bigSepL_cons', bigSepL_cons', bigSepL_cons']
    iintro ⟨⟨H1, H3⟩, H⟩
    ihave H' := ih $$ H
    icases H' with ⟨H2, H4⟩
    isplitl [H1 H2]
    · isplitl [H1] <;> iassumption
    · isplitl [H3] <;> iassumption

/-- The seven in order are the first six and the last. -/
theorem seven (A : Fin 7 → sProp 𝕄) : bigSepL all7 A = iprop((bigSepL [0, 1, 2, 3, 4, 5] fun k : Fin 6 => A k.castSucc) ∗ A 6) := by
  rw [show all7 = [0, 1, 2, 3, 4, 5].map Fin.castSucc ++ [6] from by decide, bigSepL_append, bigSepL_map, bigSepL_singleton]

/-! ## A device's semaphores -/

theorem cells_list (d : Dev nD) : (Finset.univ : Finset (Fin 33)) = ([0] ++ (all7.map iSx ++ (all7.map (fun k => iRx (rot d k)) ++ (all7.map iSm ++ (all7.map (fun k => iRm (rot d k)) ++ [1, iRx d, 17, iRm d]))))).toFinset := by
  revert d; decide +kernel
theorem cells_nodup (d : Dev nD) : ([0] ++ (all7.map iSx ++ (all7.map (fun k => iRx (rot d k)) ++ (all7.map iSm ++ (all7.map (fun k => iRm (rot d k)) ++ [1, iRx d, 17, iRm d]))))).Nodup := by
  revert d; decide +kernel

/-- A device's cells: its barrier, the four kinds it uses with each other device, and four it does not use. -/
theorem cells_split (d : Dev nD) (Φ : GSem nD τ sig → sProp 𝕄) : (bigSep Finset.univ fun i : Fin 33 => Φ (kcell (d, i)))
    = iprop(Φ (barC d) ∗ (bigSepL all7 fun k => Φ (sxC d k)) ∗ (bigSepL all7 fun k => Φ (rxC d (rot d k))) ∗ (bigSepL all7 fun k => Φ (smC d k))
        ∗ (bigSepL all7 fun k => Φ (rmC d (rot d k))) ∗ Φ (kcell (d, 1)) ∗ Φ (kcell (d, iRx d)) ∗ Φ (kcell (d, 17)) ∗ Φ (kcell (d, iRm d))) := by
  rw [bigSep_univ_eq_bigSepL _ (cells_list d) (cells_nodup d), bigSepL_append, bigSepL_append, bigSepL_append, bigSepL_append, bigSepL_append,
    bigSepL_map, bigSepL_map, bigSepL_map, bigSepL_map]
  simp only [kcell, csem_sx, csem_rx, csem_sm, csem_rm]
  rw [← csem_rx d, ← csem_rm d]
  rfl

theorem unused (d : Dev nD) (i : Fin 33) (h : i = 1 ∨ i = iRx d ∨ i = 17 ∨ i = iRm d) : dutiesOf d (kind (csem i)) = ∅ := by
  rcases h with rfl | rfl | rfl | rfl
  · rw [show kind (csem 1) = .none from by decide]; rfl
  · rw [csem_rx, kind_rx]; exact if_pos rfl
  · rw [show kind (csem 17) = .none from by decide]; rfl
  · rw [csem_rm, kind_rm]; exact if_pos rfl

/-- A cell nothing is due at closes at once. -/
theorem close_unused (d : Dev nD) (i : Fin 33) (h : i = 1 ∨ i = iRx d ∨ i = 17 ∨ i = iRm d) :
    iprop(Ctx m ∗ atPos ER (kcell (d, i)) 0 ∅ 0) ⊢ |={Set.univ}=> semVal (kcell (d, i)) 0 := by
  iintro ⟨#HΓ, Ha⟩
  ihave #Hc := (ctx_at m d i _ rfl) $$ HΓ
  unfold cinv
  icases Hc with ⟨⟨%κ, Hi⟩, -⟩
  iapply (Rounds.cell_close ER (Rd m) (Set.mem_univ κ) (fun h => h) (R := 0) (fun r _ => by
    rcases Nat.eq_zero_or_pos r with rfl | hr
    · exact (duties_eq m d (csem i)).trans (unused d i h)
    · exact duties_later m _ r hr))
  isplitr; · iexact Hi
  iexact Ha

/-! ## The loops -/

/-- What each loop takes and leaves for step `k`. -/
abbrev sigIn (d : Dev nD) (k : Fin 7) : sProp 𝕄 := iprop(dutyTok ER (barC (rot d k)) 0 d ∗ ∃ f, aPt d (rot d k) f)
abbrev sxIn (d : Dev nD) (k : Fin 7) : sProp 𝕄 :=
  iprop(dutyTok ER (sxC d k) 0 d ∗ dutyTok ER (rxC (rot d k) d) 0 d ∗ bPt m d (rot d k) ∗ (∃ f, aPt (rot d k) d f) ∗ (∃ f, gPt d (rot d k) f))
abbrev sxOut (d : Dev nD) (k : Fin 7) : sProp 𝕄 := cred (tallyAt (sxC d k) () N1)
abbrev rxIn (d : Dev nD) (k : Fin 7) : sProp 𝕄 := iprop(cred (tallyAt (rxC d (rot d k)) () N1) ∗ atPos ER (rxC d (rot d k)) 0 ∅ 0)
abbrev rxOut (d : Dev nD) (k : Fin 7) : sProp 𝕄 := iprop((aPt d (rot d k) (xa m d) ∗ (∃ f, gPt (rot d k) d f)) ∗ semVal (rxC d (rot d k)) 0)
abbrev lxIn (d : Dev nD) (k : Fin 7) : sProp 𝕄 := iprop(cred (tallyAt (sxC d k) () N1) ∗ atPos ER (sxC d k) 0 ∅ 0)
abbrev lxOut (d : Dev nD) (k : Fin 7) : sProp 𝕄 := iprop(bPt m d (rot d k) ∗ semVal (sxC d k) 0)
abbrev smIn (d : Dev nD) (k : Fin 7) : sProp 𝕄 :=
  iprop(dutyTok ER (smC d k) 0 d ∗ dutyTok ER (rmC (rot d k) d) 0 d ∗ mPt m d k ∗ (∃ f, gPt (rot d k) d f))
abbrev smOut (d : Dev nD) (k : Fin 7) : sProp 𝕄 := cred (tallyAt (smC d k) () N2)
abbrev rmIn (d : Dev nD) (k : Fin 7) : sProp 𝕄 := iprop(cred (tallyAt (rmC d (rot d k)) () N2) ∗ atPos ER (rmC d (rot d k)) 0 ∅ 0)
abbrev rmOut (d : Dev nD) (k : Fin 7) : sProp 𝕄 := iprop(gPt d (rot d k) (gC m d) ∗ semVal (rmC d (rot d k)) 0)
abbrev lmIn (d : Dev nD) (k : Fin 7) : sProp 𝕄 := iprop(cred (tallyAt (smC d k) () N2) ∗ atPos ER (smC d k) 0 ∅ 0)
abbrev lmOut (d : Dev nD) (k : Fin 7) : sProp 𝕄 := iprop(mPt m d k ∗ semVal (smC d k) 0)

/-- The seven signals. -/
theorem signals_loop (d : Dev nD) (K : PUnit → sProp 𝕄) :
    iprop(Ctx m ∗ bigSepL all7 (sigIn d) ∗ ow d (OB d all7) ∗ ((bigSepL all7 (fun _ => iprop(emp)) ∗ ow d (OX d all7)) -∗ K ⟨⟩)) ⊢ WP d (runL (signal d) all7) K :=
  runL_rule d (signal d) (Ctx m) (sigIn d) (fun _ => iprop(emp)) (fun l => ow d (OB d l)) (fun k l K => signal_step m d k l K) all7 K
/-- The seven sends of blocks. -/
theorem sendX_loop (d : Dev nD) (K : PUnit → sProp 𝕄) :
    iprop(Ctx m ∗ bigSepL all7 (sxIn m d) ∗ ow d (OX d all7) ∗ ((bigSepL all7 (sxOut d) ∗ ow d (OM d all7)) -∗ K ⟨⟩)) ⊢ WP d (runL (sendX d) all7) K :=
  runL_rule d (sendX d) (Ctx m) (sxIn m d) (sxOut d) (fun l => ow d (OX d l)) (fun k l K => sendX_step m d k l K) all7 K
/-- The seven waits for blocks to arrive. -/
theorem recvX_loop (d : Dev nD) (K : PUnit → sProp 𝕄) :
    iprop(Ctx m ∗ bigSepL all7 (rxIn d) ∗ ow d (OM d all7) ∗ ((bigSepL all7 (rxOut m d) ∗ ow d (OM d all7)) -∗ K ⟨⟩)) ⊢ WP d (runL (recvX d) all7) K :=
  runL_rule d (recvX d) (Ctx m) (rxIn d) (rxOut m d) (fun _ => ow d (OM d all7)) (fun k l K => recvX_step m d k l K) all7 K
/-- Rotations 1 to 6. -/
theorem rot_loop (d : Dev nD) (K : PUnit → sProp 𝕄) :
    iprop(Ctx m ∗ (bigSepL [0, 1, 2, 3, 4, 5] fun k : Fin 6 => aPt d (rot d k.castSucc) (xa m d)) ∗ RL m d [0, 1, 2, 3, 4, 5]
        ∗ (((bigSepL [0, 1, 2, 3, 4, 5] fun k : Fin 6 => aPt d (rot d k.castSucc) (xa m d)) ∗ RL m d []) -∗ K ⟨⟩)) ⊢ WP d (runL (rotS d) [0, 1, 2, 3, 4, 5]) K :=
  runL_rule d (rotS d) (Ctx m) (fun k => aPt d (rot d k.castSucc) (xa m d)) (fun k => aPt d (rot d k.castSucc) (xa m d)) (RL m d) (fun k l K => rotL_step m d k l K) _ K
/-- The seven waits for blocks to leave. -/
theorem leftX_loop (d : Dev nD) (K : PUnit → sProp 𝕄) :
    iprop(Ctx m ∗ bigSepL all7 (lxIn d) ∗ ow d (OM d all7) ∗ ((bigSepL all7 (lxOut m d) ∗ ow d (OM d all7)) -∗ K ⟨⟩)) ⊢ WP d (runL (leftX d) all7) K :=
  runL_rule d (leftX d) (Ctx m) (lxIn d) (lxOut m d) (fun _ => ow d (OM d all7)) (fun k l K => leftX_step m d k l K) all7 K
/-- The seven sends of the maximum. -/
theorem sendM_loop (d : Dev nD) (K : PUnit → sProp 𝕄) :
    iprop(Ctx m ∗ bigSepL all7 (smIn m d) ∗ ow d (OM d all7) ∗ ((bigSepL all7 (smOut d) ∗ ow d 0) -∗ K ⟨⟩)) ⊢ WP d (runL (sendM d) all7) K :=
  runL_rule d (sendM d) (Ctx m) (smIn m d) (smOut d) (fun l => ow d (OM d l)) (fun k l K => sendM_step m d k l K) all7 K
/-- The seven waits for maxima to arrive. -/
theorem recvM_loop (d : Dev nD) (K : PUnit → sProp 𝕄) :
    iprop(Ctx m ∗ bigSepL all7 (rmIn d) ∗ ow d 0 ∗ ((bigSepL all7 (rmOut m d) ∗ ow d 0) -∗ K ⟨⟩)) ⊢ WP d (runL (recvM d) all7) K :=
  runL_rule d (recvM d) (Ctx m) (rmIn d) (rmOut m d) (fun _ => ow d 0) (fun k l K => recvM_step m d k l K) all7 K
/-- The seven waits for copies of the maximum to leave. -/
theorem leftM_loop (d : Dev nD) (K : PUnit → sProp 𝕄) :
    iprop(Ctx m ∗ bigSepL all7 (lmIn d) ∗ ow d 0 ∗ ((bigSepL all7 (lmOut m d) ∗ ow d 0) -∗ K ⟨⟩)) ⊢ WP d (runL (leftM d) all7) K :=
  runL_rule d (leftM d) (Ctx m) (lmIn d) (lmOut m d) (fun _ => ow d 0) (fun k l K => leftM_step m d k l K) all7 K
/-- The eight column blocks quantised. -/
theorem quant_loop (d : Dev nD) (K : PUnit → sProp 𝕄) :
    iprop(Ctx m ∗ (bigSepL all8 fun i => blkPt d i (colC m d 7)) ∗ emp ∗ (((bigSepL all8 fun i => blkPt d i (outC m d)) ∗ emp) -∗ K ⟨⟩)) ⊢ WP d (runL (quant (gmax m d)) all8) K :=
  runL_rule d (quant (gmax m d)) (Ctx m) (fun i => blkPt d i (colC m d 7)) (fun i => blkPt d i (outC m d)) (fun _ => iprop(emp)) (fun i l K => quant_step m d i l K) all8 K

/-! ## The buffers in pieces -/

abbrev wBuf (d : Dev nD) : sProp 𝕄 := ((d : Thread nD τ).loc main_arg1) ↦{fullShare} wA m d
abbrev aBuf (d : Dev nD) (f : (cc0_scratch1 : Ref sig .tc).ty.Contents (Elt F)) : sProp 𝕄 := ((d : Thread nD τ).loc cc0_scratch1) ↦{fullShare} f
abbrev wbBuf (d : Dev nD) (f : (cc0_scratch2 : Ref sig .tc).ty.Contents (Elt F)) : sProp 𝕄 := ((d : Thread nD τ).loc cc0_scratch2) ↦{fullShare} f
/-- What remains of the weights beside the two slots' shares. -/
def wKeep (d : Dev nD) : sProp 𝕄 := ((d : Thread nD τ).loc main_arg1) ↦{Transfers.shareDrop fullShare 2} wA m d
def mKeep (d : Dev nD) : sProp 𝕄 := ((d : Thread nD τ).loc cc0_scratch3) ↦{Transfers.shareDrop fullShare 7} lfill m d

theorem two (Φ : Fin 2 → sProp 𝕄) : bigSep Finset.univ Φ = iprop(Φ 0 ∗ Φ 1) := bigSep_univ_eq_bigSepL [0, 1] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem sevenS (Φ : Fin 7 → sProp 𝕄) : bigSep Finset.univ Φ = bigSepL all7 Φ := bigSep_univ_eq_bigSepL all7 (by decide) (by decide) Φ
theorem eightS (Φ : Fin 8 → sProp 𝕄) : bigSep Finset.univ Φ = bigSepL all8 Φ := bigSep_univ_eq_bigSepL all8 (by decide) (by decide) Φ

theorem w_shares (d : Dev nD) : wBuf m d ⊢ iprop(wKeep m d ∗ wSh m d 0 ∗ wSh m d 1) :=
  (Transfers.pointsTo_toks_split fullShare 2).trans (sep_mono_right (Entails.of_eq (two _)))
theorem w_whole (d : Dev nD) : iprop(wKeep m d ∗ wSh m d 0 ∗ wSh m d 1) ⊢ wBuf m d :=
  (sep_mono_right (Entails.of_eq (two (fun s => wSh m d s)).symm)).trans (Transfers.pointsTo_toks_join fullShare 2)
theorem m_shares (d : Dev nD) : mBuf d (lfill m d) ⊢ iprop(mKeep m d ∗ bigSepL all7 (mPt m d)) :=
  (Transfers.pointsTo_toks_split fullShare 7).trans (sep_mono_right (Entails.of_eq (sevenS _)))
theorem m_whole (d : Dev nD) : iprop(mKeep m d ∗ bigSepL all7 (mPt m d)) ⊢ mBuf d (lfill m d) :=
  (sep_mono_right (Entails.of_eq (sevenS (mPt m d)).symm)).trans (Transfers.pointsTo_toks_join fullShare 7)

theorem wb_pieces (d : Dev nD) (f : (cc0_scratch2 : Ref sig .tc).ty.Contents (Elt F)) : wbBuf d f ⊢ iprop((∃ f, wPt d 0 f) ∗ (∃ f, wPt d 1 f)) := by
  unfold wbBuf
  rw [w_split, two]
  iintro ⟨H0, H1⟩
  isplitl [H0]; · iexists f; iexact H0
  iexists f; iexact H1
include m in
theorem wb_whole (d : Dev nD) : iprop((∃ f, wPt d 0 f) ∗ (∃ f, wPt d 1 f)) ⊢ (iprop(∃ f, wbBuf d f) : sProp 𝕄) :=
  (Entails.of_eq (two (fun s => iprop(∃ f, wPt d s f))).symm).trans (w_join m d)

theorem ex_all7 {X : Type} (A : Fin 7 → X → sProp 𝕄) (f : X) (l : List (Fin 7)) : (bigSepL l fun k => A k f) ⊢ bigSepL l fun k => iprop(∃ f, A k f) :=
  bigSepL_mono fun k _ => by iintro H; iexists f; iexact H

/-- The gathered blocks' buffer is the device's own slot and those the others fill. -/
theorem a_pieces (d : Dev nD) (f : (cc0_scratch1 : Ref sig .tc).ty.Contents (Elt F)) : aBuf d f ⊢ iprop((∃ f, aPt d d f) ∗ bigSepL all7 fun k => iprop(∃ f, aPt d (rot d k) f)) := by
  unfold aBuf
  rw [a_split, mesh_split d]
  iintro ⟨H0, H1⟩
  isplitl [H0]; · iexists f; iexact H0
  iapply (ex_all7 (fun k f => aPt d (rot d k) f) f all7); iexact H1
include m in
theorem a_whole (d : Dev nD) : iprop((∃ f, aPt d d f) ∗ bigSepL all7 fun k => iprop(∃ f, aPt d (rot d k) f)) ⊢ (iprop(∃ f, aBuf d f) : sProp 𝕄) :=
  (Entails.of_eq (mesh_split d (fun j => iprop(∃ f, aPt d j f))).symm).trans (a_join m d)
theorem g_pieces (d : Dev nD) (f : (cc0_scratch4 : Ref sig .tc).ty.Contents (Elt F)) : gBuf d f ⊢ iprop(gPt d d f ∗ bigSepL all7 fun k => iprop(∃ f, gPt d (rot d k) f)) := by
  unfold gBuf
  rw [g_split, mesh_split d]
  exact sep_mono_right (ex_all7 (fun k f => gPt d (rot d k) f) f all7)
theorem g_whole (d : Dev nD) : iprop(gPt d d (k0_pay3 (F := F)) ∗ bigSepL all7 fun k => gPt d (rot d k) (gC m d)) ⊢ gBuf d (gC m d) := by
  unfold gBuf
  rw [g_split, mesh_split d]
  refine sep_mono_left ?_
  unfold gPt
  exact Entails.of_eq (pointsTo_congr (fun i hi => (gC_own m d i hi).symm))
theorem b_pieces (d : Dev nD) : bBuf d (xb m d) = iprop(bPt m d d ∗ bigSepL all7 fun k => bPt m d (rot d k)) := by
  unfold bBuf; rw [b_split, mesh_split d]
theorem o_cols (d : Dev nD) (f : (cc0_stg1_0 : Ref sig .tc).ty.Contents (Elt F)) : oBuf d f = iprop(colPt d 0 f ∗ colPt d 1 f ∗ colPt d 2 f ∗ colPt d 3 f) := by
  unfold oBuf; rw [col_split, four]
theorem o_blks (d : Dev nD) (f : (cc0_stg1_0 : Ref sig .tc).ty.Contents (Elt F)) : oBuf d f = bigSepL all8 fun i => blkPt d i f := by
  unfold oBuf; rw [blk_split, eightS]

end Cert.A2A

end
-- ==== Proof.Body.lean ====
/-
# What a device starts from and ends with

The whole body run on what the launch deals a device: its buffers, its tokens, credits and positions. It ends with every
semaphore at zero, the weights as they were and the output buffer holding the rescaled product.
-/
module

public import proofs.«01_k».proof.Proof.Loops

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The tokens a device pays with: for each other device, its barrier, both ends of the block's copy, both ends of the
    maximum's copy. -/
def Toks (d : Dev nD) : sProp 𝕄 :=
  iprop((bigSepL all7 fun k => dutyTok ER (barC (rot d k)) 0 d) ∗ (bigSepL all7 fun k => dutyTok ER (sxC d k) 0 d)
    ∗ (bigSepL all7 fun k => dutyTok ER (rxC (rot d k) d) 0 d) ∗ (bigSepL all7 fun k => dutyTok ER (smC d k) 0 d)
    ∗ (bigSepL all7 fun k => dutyTok ER (rmC (rot d k) d) 0 d))
/-- The credit a device waits with, beside what its own copies give it. -/
def Creds (d : Dev nD) : sProp 𝕄 :=
  iprop(cred (tallyAt (barC d) () 7) ∗ (bigSepL all7 fun k => cred (tallyAt (rxC d (rot d k)) () N1)) ∗ (bigSepL all7 fun k => cred (tallyAt (rmC d (rot d k)) () N2)))
/-- A device's positions at its cells, all at the start. -/
def Poss (d : Dev nD) : sProp 𝕄 := bigSep Finset.univ fun i : Fin 33 => atPos ER (kcell (d, i)) 0 ∅ 0
/-- A device's cells at zero. -/
def Zeros (d : Dev nD) : sProp 𝕄 := bigSep Finset.univ fun i : Fin 33 => semVal (kcell (d, i)) 0
/-- The scratch buffers, at any contents. -/
def Scratch (d : Dev nD) : sProp 𝕄 :=
  iprop((∃ f, bBuf d f) ∗ (∃ f, aBuf d f) ∗ (∃ f, wbBuf d f) ∗ (∃ f, mBuf d f) ∗ (∃ f, gBuf d f))

/-- What the body starts from. -/
def BodyIn (d : Dev nD) : sProp 𝕄 :=
  iprop(ow d (O₀ d) ∗ xBuf m d ∗ (∃ f, oBuf d f) ∗ wBuf m d ∗ Scratch d ∗ (wSem d 0 ∗ wSem d 1) ∗ Toks d ∗ Creds d ∗ Poss d)
/-- What it ends with. -/
def BodyOut (d : Dev nD) : sProp 𝕄 :=
  iprop(ow d 0 ∗ xBuf m d ∗ oBuf d (outC m d) ∗ wBuf m d ∗ Scratch d ∗ (wSem d 0 ∗ wSem d 1) ∗ Zeros d)

theorem slot0 : slot 0 = 0 := rfl
theorem slot1 : slot 1 = 1 := rfl

set_option maxHeartbeats 2000000 in
/-- **The body of one device.** -/
theorem steps_ok (d : Dev nD) (K : PUnit → sProp 𝕄) : iprop(Ctx m ∗ BodyIn m d ∗ (BodyOut m d -∗ K ⟨⟩)) ⊢ WP d (stepsAt d) K := by
  unfold BodyIn Scratch Toks Creds Poss stepsAt
  rw [cells_split d fun g => atPos ER g 0 ∅ 0]
  iintro ⟨#HΓ, ⟨How, Hx, ⟨%fo, Ho⟩, Hw, ⟨⟨%fb, Hb⟩, ⟨%fa, Ha⟩, ⟨%fw, Hwb⟩, ⟨%fm, Hm⟩, ⟨%fg, Hg⟩⟩, ⟨Hs0, Hs1⟩, ⟨TB, TSX, TRX, TSM, TRM⟩, ⟨CB, CRX, CRM⟩,
    ⟨PB, PSX, PRX, PSM, PRM, P1, P2, P3, P4⟩⟩, HK⟩
  unfold WP
  -- the four cells it does not use
  imod (close_unused m d 1 (Or.inl rfl)) $$ [P1] with Z1
  · isplitr; · iexact HΓ
    iexact P1
  imod (close_unused m d (iRx d) (Or.inr (Or.inl rfl))) $$ [P2] with Z2
  · isplitr; · iexact HΓ
    iexact P2
  imod (close_unused m d 17 (Or.inr (Or.inr (Or.inl rfl)))) $$ [P3] with Z3
  · isplitr; · iexact HΓ
    iexact P3
  imod (close_unused m d (iRm d) (Or.inr (Or.inr (Or.inr rfl)))) $$ [P4] with Z4
  · isplitr; · iexact HΓ
    iexact P4
  -- the signals, each with the slot its device will fill
  ihave Ha' := (a_pieces d fa) $$ Ha
  icases Ha' with ⟨Ha0, Ha⟩
  rw [wp_bind]
  iapply (signals_loop m d)
  isplitr; · iexact HΓ
  isplitl [TB Ha]
  · iapply (sepL all7 (fun k => dutyTok ER (barC (rot d k)) 0 d) (fun k => iprop(∃ f, aPt d (rot d k) f)))
    isplitl [TB]; · iexact TB
    iexact Ha
  isplitl [How]; · iexact How
  iintro ⟨-, How⟩
  rw [wp_bind]
  iapply (barWait_step m d)
  isplitr; · iexact HΓ
  isplitl [CB]; · iexact CB
  isplitl [PB]; · iexact PB
  isplitl [How]; · iexact How
  iintro ⟨Har, ZB, How⟩
  -- the first two weight chunks start
  ihave Hw' := (w_shares m d) $$ Hw
  icases Hw' with ⟨HwK, Hw0, Hw1⟩
  ihave Hwb' := (wb_pieces d fw) $$ Hwb
  icases Hwb' with ⟨Hwb0, Hwb1⟩
  rw [wp_bind]
  iapply (startW_step m d 0 0)
  isplitl [Hw0 Hwb0 Hs0]
  · unfold WReady
    isplitl [Hw0]; · iexact Hw0
    isplitl [Hwb0]; · iexact Hwb0
    iexact Hs0
  iintro Hf0
  rw [wp_bind]
  iapply (startW_step m d 0 1)
  isplitl [Hw1 Hwb1 Hs1]
  · unfold WReady
    isplitl [Hw1]; · iexact Hw1
    isplitl [Hwb1]; · iexact Hwb1
    iexact Hs1
  iintro Hf1
  -- the maxima's buffer is cleared, the device's rows are cast
  rw [wp_bind]
  iapply (prep_step m d)
  isplitl [Hg]; · iexists fg; iexact Hg
  isplitl [Hx]; · iexact Hx
  isplitl [Hb]; · iexists fb; iexact Hb
  iintro ⟨Hg, Hx, Hb⟩
  ihave Hg' := (g_pieces d (k0_pay3 (F := F))) $$ Hg
  icases Hg' with ⟨Hg0, Hg⟩
  ihave Hb' := (Entails.of_eq (b_pieces m d)) $$ Hb
  icases Hb' with ⟨Hb0, Hb⟩
  -- the blocks go out
  rw [wp_bind]
  iapply (sendX_loop m d)
  isplitr; · iexact HΓ
  isplitl [TSX TRX Hb Har Hg]
  · iapply (sepL all7 (fun k => dutyTok ER (sxC d k) 0 d) _)
    isplitl [TSX]; · iexact TSX
    iapply (sepL all7 (fun k => dutyTok ER (rxC (rot d k) d) 0 d) _)
    isplitl [TRX]; · iexact TRX
    iapply (sepL all7 (fun k => bPt m d (rot d k)) _)
    isplitl [Hb]; · iexact Hb
    iapply (sepL all7 (fun k => iprop(∃ f, aPt (rot d k) d f)) (fun k => iprop(∃ f, gPt d (rot d k) f)))
    isplitl [Har]; · iexact Har
    iexact Hg
  isplitl [How]; · iexact How
  iintro ⟨CSX, How⟩
  -- and come in
  rw [wp_bind]
  iapply (recvX_loop m d)
  isplitr; · iexact HΓ
  isplitl [CRX PRX]
  · iapply (sepL all7 (fun k => cred (tallyAt (rxC d (rot d k)) () N1)) (fun k => atPos ER (rxC d (rot d k)) 0 ∅ 0))
    isplitl [CRX]; · iexact CRX
    iexact PRX
  isplitl [How]; · iexact How
  iintro ⟨HR, How⟩
  ihave HR' := (unsepL all7 (fun k => iprop(aPt d (rot d k) (xa m d) ∗ (∃ f, gPt (rot d k) d f))) (fun k => semVal (rxC d (rot d k)) 0)) $$ HR
  icases HR' with ⟨HR, ZRX⟩
  ihave HR' := (unsepL all7 (fun k => aPt d (rot d k) (xa m d)) (fun k => iprop(∃ f, gPt (rot d k) d f))) $$ HR
  icases HR' with ⟨Ha, Hgr⟩
  -- the eight rotations
  ihave Ho' := (Entails.of_eq (o_cols d fo)) $$ Ho
  icases Ho' with ⟨Ho0, Ho1, Ho2, Ho3⟩
  rw [wp_bind]
  iapply (rot0_step m d)
  isplitr; · iexact HΓ
  isplitl [Hb0]; · iexact Hb0
  isplitl [Hf0 Hf1]
  · isplitl [Hf0]; · iexact Hf0
    iexact Hf1
  isplitl [Ho0 Ho1 Ho2 Ho3]
  · isplitl [Ho0]; · iexists fo; iexact Ho0
    isplitl [Ho1]; · iexists fo; iexact Ho1
    isplitl [Ho2]; · iexists fo; iexact Ho2
    iexists fo; iexact Ho3
  isplitl [How]; · iexact How
  iintro ⟨Hb0, HRS⟩
  ihave Ha' := (Entails.of_eq (seven fun k => aPt d (rot d k) (xa m d))) $$ Ha
  icases Ha' with ⟨Ha, Ha6⟩
  rw [wp_bind]
  iapply (rot_loop m d)
  isplitr; · iexact HΓ
  isplitl [Ha]; · iexact Ha
  isplitl [HRS]
  · unfold RL
    iexists (0 : Fin 7)
    isplitr; · ipureintro; rfl
    iexact HRS
  iintro ⟨Ha, HRL⟩
  unfold RL
  icases HRL with ⟨%n, %hn, HRS⟩
  obtain rfl := drop_nil n hn
  rw [wp_bind]
  iapply (rot7_step m d)
  isplitr; · iexact HΓ
  isplitl [Ha6]; · iexact Ha6
  isplitl [HRS]; · iexact HRS
  iintro ⟨Ha6, ⟨HW0, HW1⟩, ⟨Ho0, Ho1, Ho2, Ho3⟩, How⟩
  ihave Ha := (Entails.of_eq (seven fun k => aPt d (rot d k) (xa m d)).symm) $$ [Ha Ha6]
  · isplitl [Ha]; · iexact Ha
    iexact Ha6
  -- the blocks have left
  rw [wp_bind]
  iapply (leftX_loop m d)
  isplitr; · iexact HΓ
  isplitl [CSX PSX]
  · iapply (sepL all7 (fun k => cred (tallyAt (sxC d k) () N1)) (fun k => atPos ER (sxC d k) 0 ∅ 0))
    isplitl [CSX]; · iexact CSX
    iexact PSX
  isplitl [How]; · iexact How
  iintro ⟨HL, How⟩
  ihave HL' := (unsepL all7 (fun k => bPt m d (rot d k)) (fun k => semVal (sxC d k) 0)) $$ HL
  icases HL' with ⟨Hb, ZSX⟩
  -- the device's own maximum
  ihave Ho := (Entails.of_eq (o_cols d (colC m d 7)).symm) $$ [Ho0 Ho1 Ho2 Ho3]
  · unfold colAt
    isplitl [Ho0]; · iexact Ho0
    isplitl [Ho1]; · iexact Ho1
    isplitl [Ho2]; · iexact Ho2
    iexact Ho3
  rw [wp_bind]
  iapply (localMax_step m d)
  isplitl [Ho]; · iexact Ho
  isplitl [Hm]; · iexists fm; iexact Hm
  iintro ⟨Ho, Hm⟩
  ihave Hm' := (m_shares m d) $$ Hm
  icases Hm' with ⟨HmK, Hm⟩
  -- it goes to the others and theirs come in
  rw [wp_bind]
  iapply (sendM_loop m d)
  isplitr; · iexact HΓ
  isplitl [TSM TRM Hm Hgr]
  · iapply (sepL all7 (fun k => dutyTok ER (smC d k) 0 d) _)
    isplitl [TSM]; · iexact TSM
    iapply (sepL all7 (fun k => dutyTok ER (rmC (rot d k) d) 0 d) _)
    isplitl [TRM]; · iexact TRM
    iapply (sepL all7 (fun k => mPt m d k) (fun k => iprop(∃ f, gPt (rot d k) d f)))
    isplitl [Hm]; · iexact Hm
    iexact Hgr
  isplitl [How]; · iexact How
  iintro ⟨CSM, How⟩
  rw [wp_bind]
  iapply (recvM_loop m d)
  isplitr; · iexact HΓ
  isplitl [CRM PRM]
  · iapply (sepL all7 (fun k => cred (tallyAt (rmC d (rot d k)) () N2)) (fun k => atPos ER (rmC d (rot d k)) 0 ∅ 0))
    isplitl [CRM]; · iexact CRM
    iexact PRM
  isplitl [How]; · iexact How
  iintro ⟨HR, How⟩
  ihave HR' := (unsepL all7 (fun k => gPt d (rot d k) (gC m d)) (fun k => semVal (rmC d (rot d k)) 0)) $$ HR
  icases HR' with ⟨Hg, ZRM⟩
  rw [wp_bind]
  iapply (leftM_loop m d)
  isplitr; · iexact HΓ
  isplitl [CSM PSM]
  · iapply (sepL all7 (fun k => cred (tallyAt (smC d k) () N2)) (fun k => atPos ER (smC d k) 0 ∅ 0))
    isplitl [CSM]; · iexact CSM
    iexact PSM
  isplitl [How]; · iexact How
  iintro ⟨HL, How⟩
  ihave HL' := (unsepL all7 (fun k => mPt m d k) (fun k => semVal (smC d k) 0)) $$ HL
  icases HL' with ⟨Hm, ZSM⟩
  ihave Hg := (g_whole m d) $$ [Hg0 Hg]
  · isplitl [Hg0]; · iexact Hg0
    iexact Hg
  -- the maxima are read and the output rescaled
  rw [wp_bind]
  iapply (wp_load_rect 𝒱₀ (d : Thread nD τ) none Set.univ (m := gM) (r := gRect) (S := Finset.univ) (Finset.subset_univ _)) $$ Hg
  iintro Hg
  rw [wp_ret]; imodintro
  rw [show (gM.access gRect).read (Elt F) (gC m d) = gC m d from readG (gC m d)]
  rw [show k0_pay53 (lmax m d) (gC m d) = gmax m d from rfl]
  iapply (quant_loop m d)
  isplitr; · iexact HΓ
  isplitl [Ho]; · iapply (Entails.of_eq (o_blks d (colC m d 7))); iexact Ho
  isplitr; · iempintro
  iintro ⟨Ho, -⟩
  iapply HK
  unfold BodyOut Scratch Zeros
  rw [cells_split d fun g => semVal g 0]
  unfold WReady
  icases HW0 with ⟨Hw0, Hwb0, Hs0⟩
  icases HW1 with ⟨Hw1, Hwb1, Hs1⟩
  isplitl [How]; · iexact How
  isplitl [Hx]; · iexact Hx
  isplitl [Ho]; · iapply (Entails.of_eq (o_blks d (outC m d)).symm); iexact Ho
  isplitl [HwK Hw0 Hw1]
  · iapply (w_whole m d)
    isplitl [HwK]; · iexact HwK
    isplitl [Hw0]; · iexact Hw0
    iexact Hw1
  isplitl [Hb0 Hb Ha0 Ha Hwb0 Hwb1 HmK Hm Hg]
  · isplitl [Hb0 Hb]
    · iexists (xb m d)
      iapply (Entails.of_eq (b_pieces m d).symm)
      isplitl [Hb0]; · iexact Hb0
      iexact Hb
    isplitl [Ha0 Ha]
    · iapply (a_whole m d)
      isplitl [Ha0]; · iexact Ha0
      iapply (ex_all7 (fun k f => aPt d (rot d k) f) (xa m d) all7)
      iexact Ha
    isplitl [Hwb0 Hwb1]
    · iapply (wb_whole m d)
      isplitl [Hwb0]; · iexact Hwb0
      iexact Hwb1
    isplitl [HmK Hm]
    · iexists (lfill m d)
      iapply (m_whole m d)
      isplitl [HmK]; · iexact HmK
      iexact Hm
    iexists (gC m d); iexact Hg
  isplitl [Hs0 Hs1]
  · isplitl [Hs0]; · iexact Hs0
    iexact Hs1
  isplitl [ZB]; · iexact ZB
  isplitl [ZSX]; · iexact ZSX
  isplitl [ZRX]; · iexact ZRX
  isplitl [ZSM]; · iexact ZSM
  isplitl [ZRM]; · iexact ZRM
  isplitl [Z1]; · iexact Z1
  isplitl [Z2]; · iexact Z2
  isplitl [Z3]; · iexact Z3
  iexact Z4

end Cert.A2A

end
-- ==== Proof.Launch.lean ====
/-
# The launch

The credit each device starts with, the tokens and positions dealt to the devices, the body obligation, and the whole run:
every weakly fair execution ends with each device's result at the computed contents, its arguments as they were and every
semaphore at zero.
-/
module

public import proofs.«01_k».proof.Proof.Body
public import Idealize.ShloMosaic.Lib.Pipeline.Quiescent

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit -/

/-- The device `k + 1` places on, as a permutation of the mesh. -/
def rotE (k : Fin 7) : Dev nD ≃ Dev nD := ⟨fun d => rot d k, fun d => rot d k.rev, fun d => rot_rev d k, fun d => rev_rot d k⟩

/-- Per device one tally at a cell of the device `k + 1` places on: each device is credited with the one at its own cell. -/
theorem cred_rot (k : Fin 7) (cell : Dev nD → Dev nD → SemLoc sig) (n : ℕ) (c : Dev nD) :
    (Pipeline.launchCred (fun d => (tallyAt ((rot d k : Thread nD τ), cell (rot d k) d) () n : CellTallies nD τ sig Unit)) c : sProp 𝕄)
      = cred (tallyAt ((c : Thread nD τ), cell c (rot c k.rev)) () n) := by
  refine Pipeline.launchCred_of_sum (fun d => tallyAt ((rot d k : Thread nD τ), cell (rot d k) d) () n)
    (fun c => tallyAt ((c : Thread nD τ), cell c (rot c k.rev)) () n) ?_ (fun d g h => ?_) c
  · rw [← Equiv.sum_comp (rotE k) (fun c : Dev nD => (tallyAt ((c : Thread nD τ), cell c (rot c k.rev)) () n : CellTallies nD τ sig Unit))]
    refine Finset.sum_congr rfl fun d _ => ?_
    show _ = tallyAt ((rot d k : Thread nD τ), cell (rot d k) (rot (rot d k) k.rev)) () n
    rw [rot_rev]
  · by_contra hg
    exact h (Finsupp.ext fun u => by
      rw [tallyAt_apply, if_neg fun h' => hg (congrArg Prod.fst h'.1)]; rfl)

/-- The credit for what is owed step by step: that for what is owed before, and each step's. -/
theorem cred_owed (base : Dev nD → CellTallies nD τ sig Unit) (cell : Dev nD → Dev nD → SemLoc sig) (n : ℕ) (c : Dev nD) (l : List (Fin 7)) :
    (Pipeline.launchCred (fun d => owedL (base d) (fun k => ((rot d k : Thread nD τ), cell (rot d k) d)) n l) c : sProp 𝕄)
      ⊢ iprop(Pipeline.launchCred base c ∗ bigSepL l fun k => cred (tallyAt ((c : Thread nD τ), cell c (rot c k.rev)) () n)) := by
  induction l with
  | nil => rw [bigSepL_nil]; iintro H; isplitl; · iexact H
           iempintro
  | cons k l ih =>
    rw [bigSepL_cons', show (fun d => owedL (base d) (fun k => ((rot d k : Thread nD τ), cell (rot d k) d)) n (k :: l))
      = fun d => owedL (base d) (fun k => ((rot d k : Thread nD τ), cell (rot d k) d)) n l + tallyAt ((rot d k : Thread nD τ), cell (rot d k) d) () n from rfl,
      Pipeline.launchCred_add, cred_rot]
    iintro ⟨H, Hk⟩
    ihave H' := ih $$ H
    icases H' with ⟨Hb, Hl⟩
    isplitl [Hb]; · iexact Hb
    isplitl [Hk]; · iexact Hk
    iexact Hl

/-- The seven from the far end are the seven. -/
theorem rev_all7 (Φ : Fin 7 → sProp 𝕄) : (bigSepL all7 fun k => Φ k.rev) = bigSepL all7 Φ := by
  rw [← sevenS, ← sevenS]
  exact (bigSep_univ_equiv Fin.revPerm Φ).symm

theorem cred_units (g : GSem nD τ sig) (l : List (Fin 7)) : (bigSepL l fun _ => cred (tallyAt g () 1)) ⊢ (cred (tallyAt g () l.length) : sProp 𝕄) := by
  induction l with
  | nil => rw [bigSepL_nil, List.length_nil, tallyAt_zero, cred_zero]; exact Entails.refl _
  | cons a l ih =>
    rw [bigSepL_cons', List.length_cons, ← tallyAt_add]
    iintro ⟨H1, H2⟩
    iapply (cred_add _ _).2
    isplitl [H2]; · iapply ih; iexact H2
    iexact H1

/-- What each device is credited with at the launch. -/
theorem creds (c : Dev nD) : (Pipeline.launchCred O₀ c : sProp 𝕄) ⊢ Creds c := by
  unfold Creds
  iintro H
  ihave H' := (show Pipeline.launchCred O₀ c ⊢ _ from cred_owed (fun d => OX d all7) (fun _ _ => SemLoc.reg barS) 1 c all7) $$ H
  icases H' with ⟨H, HB⟩
  ihave H' := (show Pipeline.launchCred (fun d => OX d all7) c ⊢ _ from cred_owed (fun d => OM d all7) (fun _ j => SemLoc.dma (dmaAt 10 (by decide) j)) N1 c all7) $$ H
  icases H' with ⟨H, HX⟩
  ihave H' := (show Pipeline.launchCred (fun d => OM d all7) c ⊢ _ from cred_owed (fun _ => 0) (fun _ j => SemLoc.dma (dmaAt 26 (by decide) j)) N2 c all7) $$ H
  icases H' with ⟨-, HM⟩
  isplitl [HB]
  · iapply (cred_units (barC c) all7); iexact HB
  isplitl [HX]
  · iapply (Entails.of_eq (rev_all7 fun k => cred (tallyAt (rxC c (rot c k)) () N1))); iexact HX
  iapply (Entails.of_eq (rev_all7 fun k => cred (tallyAt (rmC c (rot c k)) () N2))); iexact HM

/-! ## The semaphores -/

/-- The kernel's own semaphores: the four arrays of eight and the two of the weights. -/
abbrev osem : Fin 34 → SemLoc sig := fun i => .dma (⟨i.val + 2, by have := i.isLt; show i.val + 2 < 36; omega⟩ : DmaSem sig)
theorem ownSemFacts : Pipeline.OwnSemFacts cfg0.spec osem := by decide +kernel

theorem osem_list : (Finset.univ : Finset (Fin 34)) = ((List.finRange 32).map (Fin.castAdd 2) ++ [32, 33]).toFinset := by decide +kernel
theorem osem_nodup : ((List.finRange 32).map (Fin.castAdd 2) ++ [(32 : Fin 34), 33]).Nodup := by decide +kernel
theorem csem_list : (Finset.univ : Finset (Fin 33)) = ([0] ++ (List.finRange 32).map Fin.succ).toFinset := by decide +kernel
theorem csem_nodup : ([(0 : Fin 33)] ++ (List.finRange 32).map Fin.succ).Nodup := by decide +kernel
theorem csem_succ (i : Fin 32) : csem i.succ = osem (Fin.castAdd 2 i) := by revert i; decide +kernel
theorem osem_w0 : osem 32 = .dma (semW 0) := by rw [semW_eq]; rfl
theorem osem_w1 : osem 33 = .dma (semW 1) := by rw [semW_eq]; rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem turn (A B C : sProp 𝕄) : iprop((A ∗ B) ∗ C) ⊢ iprop(B ∗ C ∗ A) := by
  iintro ⟨⟨H1, H2⟩, H3⟩
  isplitl [H2]; · iexact H2
  isplitl [H3]; · iexact H3
  iexact H1
theorem turn_back (A B C : sProp 𝕄) : iprop(B ∗ C ∗ A) ⊢ iprop((A ∗ B) ∗ C) := by
  iintro ⟨H2, H3, H1⟩
  isplitr [H3]
  · isplitl [H1]; · iexact H1
    iexact H2
  iexact H3

/-- A device's semaphores at zero: its cells and its two weight semaphores. -/
theorem sems0_eq (c : Dev nD) : iprop(Pipeline.ownSems0 (Ix := Unit) (Name := ℕ) (U := UU) (Lvl := ℕ) (Val := Elt F) (τ := τ) osem c ∗ unscopedSems0 c)
    = iprop((wSem c 0 ∗ wSem c 1) ∗ (Zeros c : sProp 𝕄)) := by
  have hl : (bigSepL (List.finRange 32) fun i => (semVal (kcell (c, i.succ)) 0 : sProp 𝕄)) = bigSepL (List.finRange 32) fun i => semVal ((c : Thread nD τ), osem (Fin.castAdd 2 i)) 0 :=
    congrArg (bigSepL (List.finRange 32)) (funext fun i => by rw [← csem_succ])
  have hw : (bigSepL [(32 : Fin 34), 33] fun i => (semVal ((c : Thread nD τ), osem i) 0 : sProp 𝕄)) = iprop(wSem c 0 ∗ wSem c 1) := by
    show iprop(semVal ((c : Thread nD τ), osem 32) 0 ∗ semVal ((c : Thread nD τ), osem 33) 0) = _
    rw [osem_w0, osem_w1]
  unfold Zeros
  rw [Pipeline.ownSems0_eq_of_list c osem _ osem_list osem_nodup, unscopedSems0_eq, bigSepL_append, bigSepL_map, hw,
    bigSep_univ_eq_bigSepL _ csem_list csem_nodup, bigSepL_append, bigSepL_map, hl]
  exact BI.Entails.antisymm (turn _ _ _) (turn_back _ _ _)

/-! ## The tokens and positions dealt -/

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 33, csem k = csem k' → k = k' := by decide +kernel
  rw [h3 k k' h2]
def ringCells : Finset (GSem nD τ sig) := Finset.univ.map ⟨kcell, kcell_injective⟩

/-- The cell device `c` pays at, by kind and by which other device. -/
abbrev payCell (c : Dev nD) : Fin 5 × Fin 7 → GSem nD τ sig
  | (0, k) => barC (rot c k) | (1, k) => sxC c k | (2, k) => rxC (rot c k) c | (3, k) => smC c k | (4, k) => rmC (rot c k) c
abbrev tokOf (x : Dev nD × (Fin 5 × Fin 7)) : GSem nD τ sig × ℕ × Dev nD := (payCell x.1 x.2, 0, x.1)
theorem tokOf_injective : Function.Injective tokOf := by
  rintro ⟨c, t⟩ ⟨c', t'⟩ h
  have h1 : c = c' := congrArg (fun x : GSem nD τ sig × ℕ × Dev nD => x.2.2) h
  subst h1
  have h2 : payCell c t = payCell c t' := congrArg Prod.fst h
  have h3 : ∀ (c : Dev nD) (t t' : Fin 5 × Fin 7), (payCell c t).1.1 = (payCell c t').1.1 → (payCell c t).2 = (payCell c t').2 → t = t' := by decide +kernel
  rw [h3 c t t' (congrArg (fun g : GSem nD τ sig => g.1.1) h2) (congrArg Prod.snd h2)]
def ringToks : Finset (GSem nD τ sig × ℕ × Dev nD) := Finset.univ.map ⟨tokOf, tokOf_injective⟩

def u₀ : UU := (initOf (Pipeline.cells cfgs cellOf_inj) (Pipeline.launchToks cfgs cellOf_inj), (initOf ringCells ringToks, 1))

theorem own_ring : (BI.own (embR (initOf ringCells ringToks, 1)) : sProp 𝕄) ⊢ BI.own (ER (initOf ringCells ringToks)) := Entails.of_eq rfl

/-- What the launch deals device `c`. -/
def G (c : Dev nD) : sProp 𝕄 :=
  iprop((bigSep Finset.univ fun i : Fin 33 => roundState ER (Rd m) (kcell (c, i)) 0) ∗ (bigSep Finset.univ fun i : Fin 33 => reached ER (kcell (c, i)) 0)
    ∗ Poss c ∗ Toks c)
/-- What each device keeps of it, once every cell is under its schedule. -/
def G' (c : Dev nD) : sProp 𝕄 :=
  iprop((bigSep Finset.univ fun ck : Dev nD × Fin 33 => cinv m (kcell ck)) ∗ (wSem c 0 ∗ wSem c 1) ∗ Poss c ∗ Toks c)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 33 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => Toks c := by
    unfold ringToks; rw [bigSep_map, bigSep_univ_prod]
    refine bigSep_congr fun c _ => ?_
    rw [bigSep_univ_prod, five]
    simp only [sevenS]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Poss; simp only [bigSep_sep']
  isplitl [Hst']; · iexact Hst'
  isplitl [Hr']; · iexact Hr'
  isplitl [Hat']; · iexact Hat'
  iexact Htok'

/-- One device's cells put under their schedules. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 33 => cinv m (kcell (c, i))) ∗ ((wSem c 0 ∗ wSem c 1) ∗ Poss c ∗ Toks c)) := by
  unfold G
  iintro ⟨Hos, Hus, Hst, Hr, Hat, Htok⟩
  ihave Hv := (Entails.of_eq (sems0_eq (F := F) c)) $$ [Hos Hus]
  · isplitl [Hos]; · iexact Hos
    iexact Hus
  icases Hv with ⟨Hw, Hv⟩
  unfold Zeros
  imod (show iprop((bigSep Finset.univ fun i : Fin 33 => semVal (kcell (c, i)) 0) ∗ bigSep Finset.univ fun i : Fin 33 => roundState ER (Rd m) (kcell (c, i)) 0)
      ⊢ (|={Set.univ}=> bigSep Finset.univ fun i : Fin 33 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv Hr]
  · unfold cinv
    rw [bigSep_sep']
    isplitl [Hinv]; · iexact Hinv
    iexact Hr
  isplitl [Hw]; · iexact Hw
  isplitl [Hat]; · iexact Hat
  iexact Htok

/-- Every device is told of every cell. -/
theorem regroup : (bigSep Finset.univ fun c : Dev nD => iprop((bigSep Finset.univ fun i : Fin 33 => cinv m (kcell (c, i))) ∗ ((wSem c 0 ∗ wSem c 1) ∗ Poss c ∗ Toks c)) : sProp 𝕄)
    ⊢ bigSep Finset.univ (G' m) := by
  rw [bigSep_sep', ← bigSep_univ_prod (fun ck : Dev nD × Fin 33 => cinv m (kcell ck))]
  unfold G'
  rw [bigSep_sep' Finset.univ (fun _ : Dev nD => bigSep Finset.univ fun ck : Dev nD × Fin 33 => cinv m (kcell ck))]
  exact sep_mono_left (BI.bigSep_of_persistent Finset.univ _)

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The body obligation -/

def s₀ : MemSt nD τ sig (Elt F) := ⟨m, fun _ => 0, ρ⟩

/-- What the body starts from beside its staging buffers; what it ends with. -/
def start (c : Dev nD) : sProp 𝕄 := iprop(Ctx m ∗ wBuf m c ∗ (wSem c 0 ∗ wSem c 1) ∗ Toks c ∗ Creds c ∗ Poss c)
def Φ₀ (c : Dev nD) : sProp 𝕄 := iprop(start m c ∗ Scratch c)
def Φ₁ (c : Dev nD) : sProp 𝕄 := iprop(wBuf m c ∗ Scratch c ∗ (wSem c 0 ∗ wSem c 1) ∗ Zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m c) ∗ stg c cc0_stg1_0 (outC m c))

theorem sound_body (c : Dev nD) : bodyPre m ρ c ⊢ WP c (steps (F := F)) fun _ => bodyPost m ρ c := by
  unfold bodyPre Φ₀ start
  iintro ⟨⟨⟨#HΓ, Hw, Hws, HT, HC, HP⟩, Hs⟩, Ho, ⟨%d0, %g0, %hg0, Hx⟩, ⟨%d1, %g1, -, Hout⟩⟩
  have hx : g0 = xstg m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  unfold steps
  simp only [Prog.lift, Prog.bind_op, Prog.bind_ret, wp_deviceId]
  iapply (steps_ok m c)
  isplitr; · iexact HΓ
  isplitl
  · unfold BodyIn
    isplitl [HO]; · unfold ow; iexists W; iexact HO
    isplitl [Hx]; · iexact Hx
    isplitl [Hout]; · iexists g1; iexact Hout
    isplitl [Hw]; · iexact Hw
    isplitl [Hs]; · iexact Hs
    isplitl [Hws]; · iexact Hws
    isplitl [HT]; · iexact HT
    isplitl [HC]; · iexact HC
    iexact HP
  unfold BodyOut bodyPost Φ₁ Dat.owesAt Pipeline.owesWithin ow
  rw [show (dats m ρ 0 c).owed t0_0.succ = 0 from rfl]
  iintro ⟨⟨%W', HO⟩, Hx, Hout, Hw, Hs, Hws, HZ⟩
  isplitl [Hw Hs Hws HZ]
  · isplitl [Hw]; · iexact Hw
    isplitl [Hs]; · iexact Hs
    isplitl [Hws]; · iexact Hws
    iexact HZ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _) bM (Memref.isWhole_whole _)
      aM (Memref.isWhole_whole _) wbM (Memref.isWhole_whole _) mM (Memref.isWhole_whole _) gM (Memref.isWhole_whole _)
      cc0_scratch5 cc0_scratch6 cc0_scratch7 cc0_scratch8 cc0_scratch9) (fun _ => bodyPost m ρ c)
  rw [body_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start Ctx G'
  iintro ⟨Hw, Hlev, Hcr, -, ⟨HI, Hws, HP, HT⟩⟩
  ihave HC := (creds (F := F) c) $$ Hcr
  imodintro
  isplitl
  · isplitl [HI Hlev]
    · isplitl [HI]; · iexact HI
      iexact Hlev
    isplitl [Hw]; · iexact Hw
    isplitl [Hws]; · iexact Hws
    isplitl [HT]; · iexact HT
    isplitl [HC]; · iexact HC
    iexact HP
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

theorem phi1_exit (c : Dev nD) :
    (dats m ρ 0 c).Φ (Fin.last cfg0.N) ⊢ iprop((unscopedSems0 c ∗ wBuf m c) ∗ Pipeline.ownSems0 osem c ∗ Pipeline.scopedRest cfg0.spec c) := by
  rw [show (dats m ρ 0 c).Φ (Fin.last cfg0.N) = Φ₁ m c from rfl, scopedRest0_eq]
  unfold Φ₁ Scratch
  iintro ⟨Hw, Hs, Hws, HZ⟩
  ihave H := (Entails.of_eq (sems0_eq (F := F) c).symm) $$ [Hws HZ]
  · isplitl [Hws]; · iexact Hws
    iexact HZ
  icases H with ⟨Ho, Hu⟩
  isplitl [Hu Hw]
  · isplitl [Hu]; · iexact Hu
    iexact Hw
  isplitl [Ho]; · iexact Ho
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_of c _ _ (by
      have hk : lvK (kind (.dma ((cfg0.win w).sem s))) < 1 := by fin_cases w <;> fin_cases s <;> decide
      rcases t with ⟨_ | _, ht⟩
      · exact above_OB hk c all7
      · exact above_zero _)

/-- Device `c`'s result array after the run. -/
def finalA (c : Dev nD) (w : Fin cfg0.W) : Buf (Elt F) ((cfg0.win w).arr.view.loc (c : Thread nD τ)) := (dats m ρ 0 c).arrAt w cfg0.N

/-- What holds of the memory after the run: both windows' arrays at the computed contents, the weights unchanged. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

/-- **The run.** From any memory with zero counters, on the mesh of eight devices, every weakly fair execution ends, each
    device's arrays at the computed contents, its arguments as they were and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := own_ring $$ HX
      imod (fund_ring m) $$ HX' with HG
      imodintro
      isplitl [HP] <;> iassumption)
    (hglob := glob m)
    (hA := fun _ _ => rfl) (hpf := fun _ k => k.elim0)
    (X := start m) (Y := fun c => iprop(unscopedSems0 c ∗ wBuf m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      icombine HSI Hw gives %hw
      ihave %hu := (tcUnscoped_read c s') $$ [Hu HSI]
      · isplitl [Hu]; · iexact Hu
        iexact HSI
      imodintro
      isplitr; · ipureintro; exact ⟨hu, Buf.eq_of_forall_mem_univ hw⟩
      iexact HSI)
    (hQ := fun _ h hs => ⟨fun c => ⟨fun w => (h c).1 w, (h c).2.2.2⟩, sem_eq_zero hs fun c => (h c).2.2.1⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.A2A

end
-- ==== Proof.Frames.lean ====
/-
# The frames

Both programs of the kernel — as printed, over machine floats, and read over the extended reals — end with their arguments
unchanged and every semaphore at zero. The two have the same text, so the one run serves both.
-/
module

public import proofs.«01_k».proof.Defs
public import proofs.«01_k».proof.Proof.Gen.Kernel
public import proofs.«01_k».proof.Proof.Launch

@[expose] public section

set_option maxRecDepth 16384

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- From the run: the arguments unchanged and every semaphore at zero. -/
theorem frame_of {F : FTy → Type} [FloatOps F] (m : (ℓ : Loc nD τ sig) → Buf (Elt F) ℓ) (ρ : Dev nD → PrngReg) (r : PUnit × MemSt nD τ sig (Elt F))
    (h : QC m ρ r ∧ r.2.sem = fun _ => 0) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  ⟨fun c => ⟨((h.1 c).1 0).trans (finalA_x m ρ c), (h.1 c).2⟩, h.2⟩

/-- The kernel over the extended reals ends with its arguments unchanged and every semaphore at zero. -/
theorem frame_kernelIdeal : Cert.quiescent_KernelIdeal := fun m ρ _ =>
  (θ_run Cert.KernelIdeal.defs _ _).mono (fun r h => frame_of m ρ r h) (run_main (F := Ideal) m ρ)

set_option maxRecDepth 65536 in
/-- The two programs have the same text. -/
theorem defs_eq : Cert.Kernel.defs (F := Bits) = Cert.KernelIdeal.defs := by chain_rfl

/-- The kernel as printed ends with its arguments unchanged and every semaphore at zero. -/
theorem frame_kernel : Cert.quiescent_Kernel := fun m ρ _ => by
  rw [defs_eq]
  exact (θ_run Cert.KernelIdeal.defs _ _).mono (fun r h => frame_of m ρ r h) (run_main (F := Bits) m ρ)

end Cert.A2A

end
-- ==== Proof.Formula.lean ====
/-
  The quantised product as plain mathematics over the extended reals, and two facts about maxima that both programs need.
  Nothing here speaks of a machine.
-/
module

public import Idealize.ShloMosaic.Lib.Pointwise
public import Idealize.ShloMosaic.PureOps.Ideal.Laws

@[expose] public section

set_option maxRecDepth 16384

noncomputable section

namespace Cert.A2A

open Idealize.ShloMosaic

/-- An array of extended reals of `a` rows and `b` columns. -/
abbrev Mat (a b : ℕ) : Type := (⟨2, ![a, b]⟩ : Shape).Idx → EReal

/-- The largest float8 value, as the programs' float word names it, and its negative. -/
def top8 : EReal := Ideal.ofBits .f32 0x43E00000#32
def bot8 : EReal := Ideal.ofBits .f32 0xC3E00000#32

/-- Entry `(r, j)` of the matrix product. -/
def prodAt (x : Mat 4096 4096) (w : Mat 4096 8192) (r : Fin 4096) (j : Fin 8192) : EReal := ∑ k : Fin 4096, x (ix2 r k) * w (ix2 k j)

/-- The absolute value. -/
def mag (y : EReal) : EReal := max y (-y)

/-- The largest absolute value among the product's entries. -/
def peak (x : Mat 4096 4096) (w : Mat 4096 8192) : EReal := Finset.univ.sup fun p : Fin 4096 × Fin 8192 => mag (prodAt x w p.1 p.2)

/-- An entry `y` divided by the scale `g / 448`, clipped, and multiplied by the scale. -/
def quantAt (g y : EReal) : EReal := min top8 (max bot8 (Ideal.div y (Ideal.div g top8))) * Ideal.div g top8

/-- The whole result. -/
def quantised (x : Mat 4096 4096) (w : Mat 4096 8192) : Mat 4096 8192 := fun i => quantAt (peak x w) (prodAt x w (i 0) (i 1))

/-- No entry exceeds the peak. -/
theorem le_peak (x : Mat 4096 4096) (w : Mat 4096 8192) (r : Fin 4096) (j : Fin 8192) : mag (prodAt x w r j) ≤ peak x w :=
  Finset.le_sup (f := fun p : Fin 4096 × Fin 8192 => mag (prodAt x w p.1 p.2)) (Finset.mem_univ (r, j))

/-- A bound of every entry bounds the peak. -/
theorem peak_le (x : Mat 4096 4096) (w : Mat 4096 8192) (b : EReal) (h : ∀ r j, mag (prodAt x w r j) ≤ b) : peak x w ≤ b :=
  Finset.sup_le fun p _ => h p.1 p.2

/-- An absolute value is not negative. -/
theorem mag_nonneg (y : EReal) : 0 ≤ mag y := by
  rcases le_total 0 y with h | h
  · exact le_max_of_le_left h
  · exact le_max_of_le_right (EReal.neg_nonneg.mpr h)

/-- The word of minus infinity is the least extended real. -/
theorem ofBits_least : Ideal.ofBits .f32 0xFF800000#32 = (⊥ : EReal) := by
  simp [Ideal.ofBits, Ideal.ieee]

/-- Folding `max` from the least value is the supremum. -/
theorem fold_max {ι : Type} (s : Finset ι) (f : ι → EReal) : s.fold max (⊥ : EReal) f = s.sup f := rfl

/-- A maximum over all axes, as the vector unit takes it: the supremum of the entries. -/
theorem reduceMax {s t : Shape} {axes : List (Fin s.rank)} (ht : Subsingleton t.Idx) (src : FVec Ideal s .f32) (h : s.Reduces axes t)
    (hφ : FKind.Formats .f32) (hacc : 0xFF800000#32 = FKind.maximumf.neutral .f32 hφ) (j : t.Idx) :
    multiReduction .maximumf axes t src 0xFF800000#32 h hφ hacc j = Finset.univ.sup src := by
  rw [multiReduction_maximumf_eq_fold, Finset.filter_true_of_mem fun i _ => Subsingleton.elim _ _]
  show Finset.univ.fold max (Ideal.ofBits .f32 0xFF800000#32) src = _
  rw [ofBits_least, fold_max]

/-- The same on the host. -/
theorem hostReduceMax {s t u : Shape} {axes : List (Fin s.rank)} (ht : Subsingleton t.Idx) (src : FVec Ideal s .f32) (h : s.ReducesTo axes t)
    (hu : 0 < u.numel) (j : t.Idx) :
    Host.reduce (FloatOps.maximumf (F := Ideal) (φ := .f32)) src (constant u .f32 0xFF800000#32) h hu j = Finset.univ.sup src := by
  rw [Host.reduce_eq_fold, Finset.filter_true_of_mem fun i _ => Subsingleton.elim _ _]
  show Finset.univ.fold max (Ideal.ofBits .f32 0xFF800000#32) src = _
  rw [ofBits_least, fold_max]

end Cert.A2A

end
-- ==== Proof.Scalars.lean ====
/-
  The kernel's stored values over the extended reals, one expression at a time: a block product and its running sum,
  the largest absolute value of a column block and of the gathered maxima, and the quantised entries.
-/
module

public import proofs.«01_k».proof.Proof.Formula
public import proofs.«01_k».proof.Proof.Common
public import Idealize.ShloMosaic.Lib.Layout

@[expose] public section

set_option maxRecDepth 16384

noncomputable section

namespace Cert.A2A

open Cert.KernelIdeal Cert.KernelIdeal.Gen
open Idealize.ShloMosaic Idealize.ShloMosaic.TcCoe Idealize.SL.Sem

/-! ## One block product -/

/-- The first product into a column quarter. -/
theorem first_apply (a : Vec Ideal S512x512 .bf16) (w : Vec Ideal S1x512x2048 .f32) (r : Fin 512) (j : Fin 2048) :
    k0_pay5 a w (ix2 r j) = ∑ q : Fin 512, a (ix2 r q) * w (ix3 0 q j) := by
  pointwise [k0_pay5]

/-- A further product added to a column quarter. -/
theorem next_apply (a : Vec Ideal S1x512x512 .bf16) (w : Vec Ideal S1x512x2048 .f32) (o : Vec Ideal S512x2048 .f32) (r : Fin 512) (j : Fin 2048) :
    k0_pay11 a w o (ix2 r j) = o (ix2 r j) + ∑ q : Fin 512, a (ix3 0 r q) * w (ix3 0 q j) := by
  pointwise [k0_pay11]

/-! ## Quantising -/

/-- An entry quantised at the global maximum. -/
theorem quant_apply (g : EReal) (v : Vec Ideal S512x1024 .f32) (r : Fin 512) (j : Fin 1024) :
    k0_pay55 g v (ix2 r j) = quantAt g (v (ix2 r j)) := by
  pointwise [k0_pay55, k0_pay54, quantAt, top8, bot8]

/-! ## The maxima -/

/-- The zero word is zero. -/
theorem word_zero : (Scalar.ofBits .f32 0x00000000#32 : Ideal .f32) = (0 : EReal) := by
  show Ideal.ofBits .f32 0x00000000#32 = (0 : EReal)
  simp [Ideal.ofBits, Ideal.ieee]

/-- The largest absolute value of a column block, as the kernel takes it. -/
def blockMax {F : FTy → Type} [FloatOps F] (v : Vec F S512x1024 .f32) : F .f32 :=
  extractAt ![0, 0, 0] (shapeCast S1x1x1 (multiReduction .maximumf [1, 2] S1
    (shapeCast S1x512x1024 (absf (shapeCast S512x1024 v shapeCasts_S512x1024_S512x1024)) shapeCasts_S512x1024_S1x512x1024)
    0xFF800000#32 reduces_S1x512x1024_S1 (.inl rfl) rfl) shapeCasts_S1_S1x1x1) inpos_S1x1x1_p0_0_0

/-- The running maximum of the first five column blocks, from zero. -/
theorem first_five {F : FTy → Type} [FloatOps F] (a b c d e : Vec F S512x1024 .f32) :
    k0_pay49 a b c d e = Scalar.maximumf (Scalar.maximumf (Scalar.maximumf (Scalar.maximumf (Scalar.maximumf
      (Scalar.ofBits .f32 0x00000000#32) (blockMax a)) (blockMax b)) (blockMax c)) (blockMax d)) (blockMax e) := by
  simp only [k0_pay49, blockMax]

/-- The running maximum carried through three more column blocks. -/
theorem last_three {F : FTy → Type} [FloatOps F] (g : F .f32) (a b c : Vec F S512x1024 .f32) :
    k0_pay51 g (k0_pay50 a) b c = Scalar.maximumf (Scalar.maximumf (Scalar.maximumf g (blockMax a)) (blockMax b)) (blockMax c) := by
  simp only [k0_pay51, k0_pay50, blockMax]

/-- Every entry of the block of copies is the local maximum. -/
theorem fill_apply {F : FTy → Type} [FloatOps F] (g : F .f32) (a : FVec F S1x512x1024 .f32) (b c : Vec F S512x1024 .f32) (i : S8x128.Idx) :
    k0_pay52 g a b c i = k0_pay51 g a b c := by
  simp only [k0_pay52]
  generalize k0_pay51 g a b c = x
  rfl

/-- The local maximum is the running maximum of the column blocks' own, from zero. -/
theorem amaxOf_chain {F : FTy → Type} [FloatOps F] (a : Fin 8 → Vec F S512x1024 .f32) :
    amaxOf a = Scalar.maximumf (Scalar.maximumf (Scalar.maximumf (Scalar.maximumf (Scalar.maximumf (Scalar.maximumf (Scalar.maximumf (Scalar.maximumf
      (Scalar.ofBits .f32 0x00000000#32) (blockMax (a 0))) (blockMax (a 1))) (blockMax (a 2))) (blockMax (a 3)))
      (blockMax (a 4))) (blockMax (a 5))) (blockMax (a 6))) (blockMax (a 7)) :=
  (last_three _ _ _ _).trans (congrArg (fun g => Scalar.maximumf (Scalar.maximumf (Scalar.maximumf g _) _) _) (first_five _ _ _ _ _))

/-- Eight maxima taken in turn from zero. -/
theorem chain_max (b : Fin 8 → Ideal .f32) :
    Scalar.maximumf (Scalar.maximumf (Scalar.maximumf (Scalar.maximumf (Scalar.maximumf (Scalar.maximumf (Scalar.maximumf (Scalar.maximumf
      (Scalar.ofBits .f32 0x00000000#32) (b 0)) (b 1)) (b 2)) (b 3)) (b 4)) (b 5)) (b 6)) (b 7)
    = max (0 : EReal) (Finset.univ.sup fun k => (b k : EReal)) := by
  rw [word_zero]
  simp only [Ideal.scalar_maximumf_def]
  have h (k : Fin 8) : (b k : EReal) ≤ max (0 : EReal) (Finset.univ.sup fun k => (b k : EReal)) :=
    le_max_of_le_right (Finset.le_sup (f := fun k => (b k : EReal)) (Finset.mem_univ k))
  refine le_antisymm ?_ (max_le (by simp) (Finset.sup_le fun k _ => ?_))
  · exact max_le (max_le (max_le (max_le (max_le (max_le (max_le (max_le (le_max_left _ _) (h 0)) (h 1)) (h 2)) (h 3)) (h 4)) (h 5)) (h 6)) (h 7)
  · fin_cases k <;> simp

/-- The local maximum over the extended reals. -/
theorem amaxOf_eq (a : Fin 8 → Vec Ideal S512x1024 .f32) :
    amaxOf (F := Ideal) a = max (0 : EReal) (Finset.univ.sup fun k => (blockMax (a k) : EReal)) :=
  (amaxOf_chain a).trans (chain_max fun k => blockMax (a k))

/-- An array of one entry has one index. -/
theorem one_index : Subsingleton S1.Idx := ⟨fun a b => funext fun k => Fin.ext (by
  have h1 := (a k).isLt; have h2 := (b k).isLt; revert h1 h2
  match k with
  | ⟨0, _⟩ => intro h1 h2; have h1 : (a 0).val < 1 := h1; have h2 : (b 0).val < 1 := h2; show (a 0).val = (b 0).val; omega)⟩

/-- The supremum of a reshaped array is the array's. -/
theorem sup_shapeCast {s t : Shape} (x : s.Idx → EReal) (h : s.ShapeCasts t) :
    Finset.univ.sup (shapeCast t x h) = Finset.univ.sup x := by
  refine le_antisymm (Finset.sup_le fun i _ => Finset.le_sup (f := x) (Finset.mem_univ _)) (Finset.sup_le fun i _ => ?_)
  refine le_trans (le_of_eq ?_) (Finset.le_sup (f := shapeCast t x h) (Finset.mem_univ ((Shape.reshapeEquiv h).symm i)))
  exact congrArg x ((Shape.reshapeEquiv h).apply_symm_apply i).symm

/-- A column block's own maximum is the supremum of its entries' absolute values. -/
theorem blockMax_eq (v : Vec Ideal S512x1024 .f32) : blockMax v = Finset.univ.sup fun i => mag (v i) := by
  have h1 : blockMax v = multiReduction .maximumf [1, 2] S1
      (shapeCast S1x512x1024 (absf (shapeCast S512x1024 v shapeCasts_S512x1024_S512x1024)) shapeCasts_S512x1024_S1x512x1024)
      0xFF800000#32 reduces_S1x512x1024_S1 (.inl rfl) rfl (Shape.reshapeEquiv shapeCasts_S1_S1x1x1 fun a => ⟨![0, 0, 0] a, inpos_S1x1x1_p0_0_0 a⟩) := rfl
  refine h1.trans ((reduceMax one_index _ _ _ _ _).trans ((sup_shapeCast _ _).trans ?_))
  rw [shapeCast_self]
  rfl

/-- The global maximum is the larger of the gathered entries' supremum and the local maximum. -/
theorem gathered_eq (g : Ideal .f32) (v : Vec Ideal S8x8x128 .f32) : k0_pay53 g v = max (Finset.univ.sup v : EReal) g := by
  have h1 : k0_pay53 g v = Scalar.maximumf (multiReduction .maximumf [1, 2, 3] S1 (shapeCast S1x8x8x128 v shapeCasts_S8x8x128_S1x8x8x128)
      0xFF800000#32 reduces_S1x8x8x128_S1 (.inl rfl) rfl (Shape.reshapeEquiv shapeCasts_S1_S1x1x1x1 fun a => ⟨![0, 0, 0, 0] a, inpos_S1x1x1x1_p0_0_0_0 a⟩)) g := rfl
  refine h1.trans (congrArg (fun y : EReal => max y g) ((reduceMax one_index _ _ _ _ _).trans (sup_shapeCast _ _)))

/-- The gather buffer's own slot is filled with zeros. -/
theorem filled_zero (i : S8x8x128.Idx) : k0_pay3 (F := Ideal) i = (0 : EReal) := word_zero

/-- A column block as rounded: over the extended reals, unchanged. -/
theorem rounded_apply (v : Vec Ideal S4096x512 .f32) (r : Fin 4096) (q : Fin 512) : k0_pay4 v (ix2 r q) = v (ix2 r q) := by
  pointwise [k0_pay4]

end Cert.A2A

end
-- ==== Proof.Value.lean ====
/-
  What the kernel computes over the extended reals: each device's rows of the matrix product, their largest absolute
  value over all devices, and the quantised rows.
-/
module

public import proofs.«01_k».proof.Proof.Scalars
public import Idealize.ShloMosaic.Lib.Layout

@[expose] public section

set_option maxRecDepth 16384

noncomputable section

namespace Cert.A2A

open Cert.KernelIdeal Cert.KernelIdeal.Gen
open Idealize.ShloMosaic Idealize.ShloMosaic.TcCoe Idealize.SL.Sem

/-! ## Sums by row blocks -/

/-- Row `r` of row block `c`. -/
def row (c : Fin 8) (r : Fin 512) : Fin 4096 := ⟨512 * c.val + r.val, by have h1 := c.isLt; have h2 := r.isLt; omega⟩

/-- The block device `c` reaches after `k` rotations. -/
def reached (c : Fin 8) (k : ℕ) : Fin 8 := ⟨(c.val + k) % 8, Nat.mod_lt _ (by decide)⟩

/-- Eight rotations reach every block once. -/
theorem reached_bijective (c : Fin 8) : Function.Bijective fun k : Fin 8 => reached c k.val := by
  revert c; decide +kernel

/-- Summing over the rotations is summing over the blocks. -/
theorem sum_reached (c : Fin 8) (f : Fin 8 → EReal) : ∑ k ∈ Finset.range 8, f (reached c k) = ∑ i : Fin 8, f i := by
  rw [Finset.sum_range]
  exact Fintype.sum_bijective _ (reached_bijective c) _ _ fun _ => rfl

/-- Every row lies in one block. -/
theorem row_bijective : Function.Bijective fun p : Fin 8 × Fin 512 => row p.1 p.2 := by
  constructor
  · rintro ⟨a, b⟩ ⟨a', b'⟩ h
    have h : 512 * a.val + b.val = 512 * a'.val + b'.val := congrArg Fin.val h
    have h1 := b.isLt; have h2 := b'.isLt
    have ha : a = a' := Fin.ext (by omega)
    have hb : b = b' := Fin.ext (by omega)
    rw [ha, hb]
  · intro k
    have h1 := k.isLt
    exact ⟨(⟨k.val / 512, by omega⟩, ⟨k.val % 512, by omega⟩), Fin.ext (by show 512 * (k.val / 512) + k.val % 512 = k.val; omega)⟩

/-- Summing over the rows is summing block by block. -/
theorem sum_row (f : Fin 4096 → EReal) : ∑ i : Fin 8, ∑ q : Fin 512, f (row i q) = ∑ k : Fin 4096, f k := by
  rw [← Fintype.sum_prod_type' fun i q => f (row i q)]
  exact Fintype.sum_bijective (fun p : Fin 8 × Fin 512 => row p.1 p.2) row_bijective _ _ fun _ => rfl

/-- An entry does not exceed the supremum. -/
theorem le_sup_univ {ι : Type} [Fintype ι] (f : ι → EReal) (i : ι) : f i ≤ Finset.univ.sup f := Finset.le_sup (Finset.mem_univ i)

/-! ## The product -/

variable (m : (ℓ : Loc nD τ sig) → Buf (Elt Ideal) ℓ) (X : Mat 4096 4096) (W : Mat 4096 8192)

/-- The devices hold the column blocks of `X`, and `W` each. -/
def Holds : Prop := ∀ c : Dev nD,
  m ((c : Thread nD τ).loc main_arg0) = (Layout.block ⟨2, ![4096, 512]⟩ ⟨2, ![4096, 4096]⟩ 1 8 c X : Mat 4096 512)
    ∧ m ((c : Thread nD τ).loc main_arg1) = W

/-- The staged operand is the operand. -/
theorem xstg_eq (c : Dev nD) : xstg m c = m ((c : Thread nD τ).loc main_arg0) := by
  funext i
  refine congrArg (m ((c : Thread nD τ).loc main_arg0)) (funext fun a => Fin.ext ?_)
  match a with
  | ⟨0, _⟩ => show 0 * 4096 + 1 * (i 0).val = (i 0).val; omega
  | ⟨1, _⟩ => show 0 * 512 + 1 * (i 1).val = (i 1).val; omega

/-- Row block `j` of device `i`'s rounded operand. -/
theorem xrow_eq (h : Holds m X W) (i : Dev nD) (j : Fin 8) (r q : Fin 512) : xrow m i j (ix2 r q) = X (ix2 (row j r) (row i q)) := by
  refine (rounded_apply (xstg m i) (row j r) q).trans ?_
  rw [xstg_eq, (h i).1]
  refine congrArg X (funext fun a => Fin.ext ?_)
  match a with
  | ⟨0, _⟩ => rfl
  | ⟨1, _⟩ => show i.val * 512 + q.val = 512 * i.val + q.val; omega

/-- The weight chunk of a rotation. -/
theorem wv_eq (h : Holds m X W) (c : Dev nD) (k : Fin 8) (p : Fin 4) (q : Fin 512) (j : Fin 2048) (J : Fin 8192) (hJ : J.val = 2048 * p.val + j.val) :
    wv m c k p (ix3 0 q j) = W (ix2 (row (reached c k.val) q) J) := by
  unfold wv wA
  rw [(h c).2]
  refine congrArg W (funext fun a => Fin.ext ?_)
  match a with
  | ⟨0, _⟩ => rfl
  | ⟨1, _⟩ => exact hJ.symm

/-- One block's share of an entry. -/
def part (c : Fin 8) (r : Fin 512) (J : Fin 8192) (i : Fin 8) : EReal := ∑ q : Fin 512, X (ix2 (row c r) (row i q)) * W (ix2 (row i q) J)

/-- The running product after `n` rotations beyond the first: the shares of the blocks reached. -/
theorem acc_eq (h : Holds m X W) (c : Dev nD) (p : Fin 4) (r : Fin 512) (j : Fin 2048) (J : Fin 8192) (hJ : J.val = 2048 * p.val + j.val) (n : ℕ) (hn : n ≤ 7) :
    acc m c p n (ix2 r j) = ∑ k ∈ Finset.range (n + 1), part X W c r J (reached c k) := by
  induction n with
  | zero =>
    rw [Finset.sum_range_one]
    refine (first_apply (xrow m c c) (wv m c 0 p) r j).trans (Finset.sum_congr rfl fun q _ => ?_)
    have h0 : reached c 0 = c := Fin.ext (Nat.mod_eq_of_lt c.isLt)
    rw [xrow_eq m X W h, wv_eq m X W h c 0 p q j J hJ, show reached c (0 : Fin 8).val = reached c 0 from rfl, h0]
  | succ n ih =>
    have hk : n < 7 := hn
    rw [Finset.sum_range_succ, ← ih (by omega), acc_succ m c p ⟨n, hk⟩]
    refine (next_apply _ _ _ r j).trans (congrArg (fun y : EReal => acc m c p n (ix2 r j) + y) (Finset.sum_congr rfl fun q _ => ?_))
    have hr : rot c ⟨n, hk⟩ = reached c (n + 1) := Fin.ext (by show (c.val + 1 + n) % 8 = (c.val + (n + 1)) % 8; congr 1; omega)
    rw [wv_eq m X W h c (Fin.succ ⟨n, hk⟩) p q j J hJ]
    refine congrArg (fun y : EReal => y * W (ix2 (row (reached c (n + 1)) q) J)) ((xrow_eq m X W h (rot c ⟨n, hk⟩) c r q).trans ?_)
    rw [hr]

/-- The shares of all blocks are the entry of the product. -/
theorem parts_eq (c : Fin 8) (r : Fin 512) (J : Fin 8192) : ∑ k ∈ Finset.range 8, part X W c r J (reached c k) = prodAt X W (row c r) J :=
  (sum_reached c _).trans (sum_row fun k => X (ix2 (row c r) k) * W (ix2 k J))

/-- Column eighth `b` of device `c`'s rows of the product. -/
theorem yBlk_eq (h : Holds m X W) (c : Dev nD) (b : Fin 8) (y : S512x1024.Idx) (J : Fin 8192) (hJ : J.val = 1024 * b.val + (y 1).val) :
    yBlk m c b y = prodAt X W (row c (y 0)) J := by
  refine (acc_eq m X W h c _ (y 0) _ J ?_ 7 le_rfl).trans (parts_eq X W c (y 0) J)
  show J.val = 2048 * ((1024 * b.val + (y 1).val) / 2048) + (1024 * b.val + (y 1).val) % 2048
  omega

/-! ## The maxima -/

/-- The local maximum does not exceed the peak. -/
theorem lmax_le (h : Holds m X W) (c : Dev nD) : (lmax m c : EReal) ≤ peak X W := by
  refine le_trans (le_of_eq (amaxOf_eq (yBlk m c))) (max_le (le_trans (mag_nonneg _) (le_peak X W 0 0)) (Finset.sup_le fun b _ => ?_))
  refine le_trans (le_of_eq (blockMax_eq (yBlk m c b))) (Finset.sup_le fun y _ => ?_)
  have hy : (y 1).val < 1024 := (y 1).isLt
  have hb := b.isLt
  rw [yBlk_eq m X W h c b y ⟨1024 * b.val + (y 1).val, by omega⟩ rfl]
  exact le_peak X W _ _

/-- No entry of the device's rows exceeds the local maximum. -/
theorem le_lmax (h : Holds m X W) (c : Dev nD) (r : Fin 512) (J : Fin 8192) : mag (prodAt X W (row c r) J) ≤ (lmax m c : EReal) := by
  have hJ := J.isLt
  refine le_trans ?_ (le_of_eq (amaxOf_eq (yBlk m c)).symm)
  refine le_max_of_le_right (le_trans ?_ (le_sup_univ (fun b => (blockMax (yBlk m c b) : EReal)) ⟨J.val / 1024, by omega⟩))
  refine le_trans ?_ (le_of_eq (blockMax_eq _).symm)
  refine le_trans (le_of_eq ?_) (le_sup_univ (fun y => mag (yBlk m c ⟨J.val / 1024, by omega⟩ y)) (ix2 r (⟨J.val % 1024, by omega⟩ : Fin 1024)))
  refine congrArg mag (yBlk_eq m X W h c _ (ix2 r (⟨J.val % 1024, by omega⟩ : Fin 1024)) J ?_).symm
  show J.val = 1024 * (J.val / 1024) + J.val % 1024
  omega

/-- Another device's slot of the gather holds that device's local maximum. -/
theorem other_slot (c : Dev nD) (i : S8x8x128.Idx) (hi : (i 0).val ≠ c.val) : gC m c i = lmax m (i 0) := by
  unfold gC; rw [if_neg hi]
  exact fill_apply _ _ _ _ _

/-- The device's own slot holds zeros. -/
theorem own_slot (c : Dev nD) (i : S8x8x128.Idx) (hi : (i 0).val = c.val) : gC m c i = (0 : EReal) := by
  unfold gC; rw [if_pos hi]; exact filled_zero i

/-- Every device's global maximum is the peak. -/
theorem gmax_eq (h : Holds m X W) (c : Dev nD) : (gmax m c : EReal) = peak X W := by
  refine (gathered_eq (lmax m c) (gC m c)).trans (le_antisymm (max_le (Finset.sup_le fun i _ => ?_) (lmax_le m X W h c)) (peak_le X W _ fun R J => ?_))
  · by_cases hi : (i 0).val = c.val
    · rw [own_slot m c i hi]; exact le_trans (mag_nonneg _) (le_peak X W 0 0)
    · rw [other_slot m c i hi]; exact lmax_le m X W h (i 0)
  · obtain ⟨⟨e, r⟩, hR⟩ := row_bijective.2 R
    rw [← hR]
    by_cases he : e.val = c.val
    · have he : e = c := Fin.ext he
      rw [he]
      exact le_max_of_le_right (le_lmax m X W h c r J)
    · refine le_max_of_le_left (le_trans (le_lmax m X W h e r J) ?_)
      refine le_trans (le_of_eq ?_) (le_sup_univ (gC m c) (ix3 e 0 0))
      exact (other_slot m c (ix3 e 0 0) he).symm

/-! ## The result -/

/-- The result on device `c`: its rows of the quantised product. -/
theorem outC_eq (h : Holds m X W) (c : Dev nD) :
    outC m c = (Layout.block ⟨2, ![512, 8192]⟩ ⟨2, ![4096, 8192]⟩ 0 8 c (quantised X W) : Mat 512 8192) := by
  funext i
  refine (quant_apply (gmax m c) _ (i 0) _).trans ?_
  rw [gmax_eq m X W h c]
  refine congrArg (quantAt (peak X W)) ?_
  have h1 : (i 1).val = 1024 * ((i 1).val / 1024) + (i 1).val % 1024 := by omega
  refine (yBlk_eq m X W h c _ _ (i 1) h1).trans ?_
  refine congrArg₂ (prodAt X W) (Fin.ext ?_) (Fin.ext ?_)
  · show 512 * c.val + (i 0).val = c.val * 512 + (i 0).val; omega
  · rfl

end Cert.A2A

end
-- ==== Proof.RefValue.lean ====
/-
  What the reference computes: its result array is the quantised product of its two arguments.
-/
module

public import proofs.«01_k».proof.Proof.Formula
public import proofs.«01_k».proof.Proof.Gen.ReferenceIdeal.Value
public import Idealize.ShloMosaic.Lib.StableHlo.Run

@[expose] public section

set_option maxRecDepth 16384

noncomputable section

namespace Cert.A2A.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two arguments. -/
abbrev argX (c : Dev nD) : Mat 4096 4096 := m ((c : Thread nD τ).loc main_arg0)
abbrev argW (c : Dev nD) : Mat 4096 8192 := m ((c : Thread nD τ).loc main_arg1)

/-- The host's product. -/
def hostY (x : Mat 4096 4096) (w : Mat 4096 8192) : FVec Ideal S4096x8192 .f32 :=
  Host.dotGeneral (φ₁ := .f32) (φ₂ := .f32) dot_S4096x4096_S4096x8192_S4096x8192_1_0_0_1_n_n none x w
/-- The host's scale. -/
def hostScale (x : Mat 4096 4096) (w : Mat 4096 8192) : FVec Ideal S_ .f32 :=
  Host.divf (Host.reduce FloatOps.maximumf (Host.absf (hostY x w)) (constant S_ .f32 0xFF800000#32) reducesTo_S4096x8192_S_d0_1 h_S_) (constant S_ .f32 0x43E00000#32)
/-- The host's codes. -/
def hostQ (x : Mat 4096 4096) (w : Mat 4096 8192) : FVec Ideal S4096x8192 .fp8e4m3 :=
  Host.convertf .fp8e4m3 (minimumf (broadcastInDim S4096x8192 ![] bcast_S_S4096x8192 (constant (F := Ideal) S_ .f32 0x43E00000#32))
    (maximumf (broadcastInDim S4096x8192 ![] bcast_S_S4096x8192 (constant (F := Ideal) S_ .f32 0xC3E00000#32))
      (Host.divf (hostY x w) (broadcastInDim S4096x8192 ![] bcast_S_S4096x8192 (hostScale x w)))))

theorem V_codes (c : Dev nD) : V m c main_v7 = hostQ (argX m c) (argW m c) := by
  simp only [V, hostOps0, hostOps0_1, hostOps0_2, List.flatten_cons, List.flatten_nil, List.append_nil, List.cons_append, List.nil_append]
  after_results
  rfl

theorem V_scale (c : Dev nD) : V m c main_v8 = shapeCast S1x1 (hostScale (argX m c) (argW m c)) shapeCasts_S_S1x1 := by
  simp only [V, hostOps0, hostOps0_1, hostOps0_2, List.flatten_cons, List.flatten_nil, List.append_nil, List.cons_append, List.nil_append]
  after_results
  rfl

theorem hostY_apply (x : Mat 4096 4096) (w : Mat 4096 8192) (i : S4096x8192.Idx) : hostY x w i = prodAt x w (i 0) (i 1) := by
  pointwise [hostY, prodAt]

instance : Subsingleton S_.Idx := ⟨fun a b => funext fun k => k.elim0⟩

/-- The host's scale is the largest absolute value over 448. -/
theorem hostScale_apply (x : Mat 4096 4096) (w : Mat 4096 8192) (i : S_.Idx) : hostScale x w i = Ideal.div (peak x w) top8 := by
  have h : Host.reduce FloatOps.maximumf (Host.absf (hostY x w)) (constant S_ .f32 0xFF800000#32) reducesTo_S4096x8192_S_d0_1 h_S_ i = peak x w := by
    refine (hostReduceMax (t := S_) inferInstance _ _ _ i).trans ?_
    refine le_antisymm (Finset.sup_le fun p _ => ?_) (peak_le x w _ fun r j => ?_)
    · exact le_trans (le_of_eq (congrArg mag (hostY_apply x w p))) (le_peak x w (p 0) (p 1))
    · refine le_trans (le_of_eq (congrArg mag (hostY_apply x w (ix2 r j))).symm) ?_
      exact Finset.le_sup (f := Host.absf (hostY x w)) (Finset.mem_univ (ix2 r j))
  exact congrArg (fun g => Ideal.div g top8) h

/-- The host's codes, over the reals, are the clipped quotients. -/
theorem hostQ_apply (x : Mat 4096 4096) (w : Mat 4096 8192) (i : S4096x8192.Idx) :
    hostQ x w i = min top8 (max bot8 (Ideal.div (prodAt x w (i 0) (i 1)) (Ideal.div (peak x w) top8))) := by
  have h : hostQ x w i = min top8 (max bot8 (Ideal.div (hostY x w i) (hostScale x w ix0))) := by
    pointwise [hostQ, top8, bot8]
  rw [h, hostY_apply, hostScale_apply]

/-- The region's one point. -/
abbrev pt : Fin cfg0.N := ⟨0, by decide +kernel⟩

/-- The region's windows are whole arrays: the block of each is the array. -/
theorem blk0_read (c : Dev nD) : iblk m c 0 pt = V m c main_v7 := by
  funext i
  refine congrArg (V m c main_v7) (funext fun a => Fin.ext ?_)
  match a with
  | ⟨0, _⟩ => show 0 * 4096 + 1 * (i 0).val = (i 0).val; omega
  | ⟨1, _⟩ => show 0 * 8192 + 1 * (i 1).val = (i 1).val; omega

theorem blk1_read (c : Dev nD) : iblk m c 1 pt = V m c main_v8 := by
  funext i
  refine congrArg (V m c main_v8) (funext fun a => Fin.ext ?_)
  match a with
  | ⟨0, _⟩ => show 0 * 1 + 1 * (i 0).val = (i 0).val; omega
  | ⟨1, _⟩ => show 0 * 1 + 1 * (i 1).val = (i 1).val; omega

theorem blk2_read (c : Dev nD) (f : Mat 4096 8192) : ((cfg0.win 2).blk pt).view.read (Elt Ideal) f = f := by
  funext i
  refine congrArg f (funext fun a => Fin.ext ?_)
  match a with
  | ⟨0, _⟩ => show 0 * 4096 + 1 * (i 0).val = (i 0).val; omega
  | ⟨1, _⟩ => show 0 * 8192 + 1 * (i 1).val = (i 1).val; omega

/-- What the region stores at index `i`: the code times the scale. -/
theorem stored (q : Vec Ideal S4096x8192 .fp8e4m3) (s : Vec Ideal S1x1 .f32) (i : S4096x8192.Idx) :
    out0_2 q s i = q i * s (ix2 0 0) := by
  have hq : View.ld q r0_0 = q := by
    funext y
    refine congrArg q (funext fun a => Fin.ext ?_)
    match a with
    | ⟨0, _⟩ => show 0 + 1 * (y 0).val = (y 0).val; omega
    | ⟨1, _⟩ => show 0 + 1 * (y 1).val = (y 1).val; omega
  have hs : View.ld s r0_1 = s := by
    funext y
    refine congrArg s (funext fun a => Fin.ext ?_)
    match a with
    | ⟨0, _⟩ => show 0 + 1 * (y 0).val = (y 0).val; omega
    | ⟨1, _⟩ => show 0 + 1 * (y 1).val = (y 1).val; omega
  unfold out0_2
  rw [hq, hs, Value.canon2_eq]
  refine congrArg₂ (fun (a b : EReal) => a * b) (congrArg q (funext fun a => ?_)) (congrArg s (funext fun a => ?_))
  · match a with
    | ⟨0, _⟩ => rfl
    | ⟨1, _⟩ => rfl
  · match a with
    | ⟨0, _⟩ => rfl
    | ⟨1, _⟩ => rfl

/-- The result window is written back after its one point. -/
theorem flushes : (cfg0.win 2).flush pt = true := by decide +kernel

/-- The result window is not cut. -/
theorem cut_whole (f : Mat 4096 8192) : (cfg0.win 2).cut (grid0.coords pt) f = f := by
  funext i
  refine congrArg f (funext fun a => Fin.ext ?_)
  match a with
  | ⟨0, _⟩ => rfl
  | ⟨1, _⟩ => rfl

/-- The result array after the run: the quantised product of the arguments. -/
theorem result_eq (c : Dev nD) : (dats m 0 c).arrAt 2 cfg0.N = quantised (argX m c) (argW m c) := by
  have h := (blk2_read c ((dats m 0 c).arrAt 2 cfg0.N)).symm.trans ((Value.blocks2 m c pt flushes).trans (Value.flushed2 m c pt))
  have h0 : iblk m c 0 pt = hostQ (argX m c) (argW m c) := (blk0_read m c).trans (V_codes m c)
  have h1 : iblk m c 1 pt = shapeCast S1x1 (hostScale (argX m c) (argW m c)) shapeCasts_S_S1x1 := (blk1_read m c).trans (V_scale m c)
  rw [h0, h1] at h
  refine h.trans ((cut_whole _).trans (funext fun i => ?_))
  rw [stored, hostQ_apply]
  exact congrArg (fun s : EReal => min top8 (max bot8 (Ideal.div (prodAt (argX m c) (argW m c) (i 0) (i 1)) (Ideal.div (peak (argX m c) (argW m c)) top8))) * s)
    (hostScale_apply (argX m c) (argW m c) _)

/-- The reference runs, its result is the quantised product of its arguments, and the arguments stay. -/
theorem run_value : θ_run (defs (F := Ideal)) (onTc (τ := τ) (main (F := Ideal))) ⟨m, fun _ => 0, ρ⟩ fun r => ∀ c : Dev nD,
    r.2.mem ((c : Thread nD τ).loc main_v9) = quantised (argX m c) (argW m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.A2A.Ref

end
-- ==== Proof.Algebraic.lean ====
/-
  The value claim: from arguments that agree, the kernel's devices end holding the row blocks of the reference's result.
-/
module

public import proofs.«01_k».proof.Defs
public import proofs.«01_k».proof.Proof.Frames
public import proofs.«01_k».proof.Proof.Value
public import proofs.«01_k».proof.Proof.RefValue
public import Idealize.ShloMosaic.Lib.Pipeline.Value

@[expose] public section

set_option maxRecDepth 16384

noncomputable section

namespace Cert.A2A

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result window's one block is the whole array. -/
theorem out_blk_read (f : Mat 512 8192) : ((cfg0.win 1).blk t0_0).view.read (Elt Ideal) f = f := by
  funext i
  refine congrArg f (funext fun a => Fin.ext ?_)
  match a with
  | ⟨0, _⟩ => show 0 * 512 + 1 * (i 0).val = (i 0).val; omega
  | ⟨1, _⟩ => show 0 * 8192 + 1 * (i 1).val = (i 1).val; omega

/-- The result window is not cut. -/
theorem out_cut (f : Mat 512 8192) : (cfg0.win 1).cut (grid0.coords t0_0) f = f := by
  funext i
  refine congrArg f (funext fun a => Fin.ext ?_)
  match a with
  | ⟨0, _⟩ => rfl
  | ⟨1, _⟩ => rfl

/-- The result window is written back after its one point. -/
theorem out_flushes : (cfg0.win 1).flush t0_0 = true := by decide +kernel

/-- The array's block, read back, is what was written back. -/
theorem out_blocks (c : Dev nD) :
    ((cfg0.win 1).blk t0_0).view.read (Elt Ideal) ((dats m ρ 0 c).arrAt 1 cfg0.N) = (dats m ρ 0 c).flushed 1 t0_0 :=
  (dats m ρ 0 c).read_blk_arrAt_eq_flushed 1 (fun t t' _ _ h => absurd ((fin_N0 t).trans (fin_N0 t').symm) h) cfg0.N t0_0 t0_0.isLt out_flushes

/-- What is written back is the computed result. -/
theorem out_flushed (c : Dev nD) : (dats m ρ 0 c).flushed 1 t0_0 = (cfg0.win 1).cut (grid0.coords t0_0) (outC m c) := rfl

/-- Device `c`'s result array after the run. -/
theorem finalA_out (c : Dev nD) : finalA m ρ c 1 = outC m c :=
  (out_blk_read (finalA m ρ c 1)).symm.trans ((out_blocks m ρ c).trans ((out_flushed m ρ c).trans (out_cut (outC m c))))

/-- The kernel's run from agreeing arguments: each device ends with its rows of the quantised product, its arguments unchanged. -/
theorem kernel_value (X : Mat 4096 4096) (W : Mat 4096 8192) (h : Holds m X W) :
    θ_run (defs (F := Ideal)) (onTc (τ := τ) (main (F := Ideal))) ⟨m, fun _ => 0, ρ⟩ fun r => ∀ c : Dev nD,
      r.2.mem ((c : Thread nD τ).loc main_v1) = (Layout.block ⟨2, ![512, 8192]⟩ ⟨2, ![4096, 8192]⟩ 0 8 c (quantised X W) : Mat 512 8192)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨((hr.1 c).1 1).trans ((finalA_out m ρ c).trans (outC_eq m X W h c)), (frame_of m ρ r hr).1 c⟩) (run_main m ρ)

/-- From arguments that agree, both programs run; the reference ends with the quantised product, each of the kernel's
    devices with its block of that, and all arguments stay. -/
theorem value : Cert.algebraic_KernelIdeal_ReferenceIdeal := fun m g m' g' _ hm =>
  ⟨quantised (Ref.argX m' 0) (Ref.argW m' 0), kernel_value m g (Ref.argX m' 0) (Ref.argW m' 0) hm,
    (θ_run Cert.ReferenceIdeal.defs _ _).mono (fun r hr => hr 0) (Ref.run_value m' g')⟩

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: each of the three programs runs to its end from every memory,
    leaves its arguments unchanged and every semaphore at zero; the idealization rewrote nothing; and from
    agreeing arguments, over the extended reals, each device of the kernel ends holding its block of rows of
    the reference's result. -/
theorem claim : Cert.Claim :=
  ⟨Cert.Kernel.Gen.facts, Cert.KernelIdeal.Gen.facts, Cert.ReferenceIdeal.Gen.facts,
    Cert.A2A.frame_kernel, Cert.A2A.frame_kernelIdeal,
    fun m ρ _ => Cert.ReferenceIdeal.Gen.frame m ρ, trivial, Cert.A2A.value⟩

end Cert.Proof

end
